-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S8x512x512 : Shape := ⟨3, ![8, 512, 512]⟩
abbrev S4x512x2048 : Shape := ⟨3, ![4, 512, 2048]⟩
abbrev S7x512x512 : Shape := ⟨3, ![7, 512, 512]⟩
abbrev S2x512x1024 : Shape := ⟨3, ![2, 512, 1024]⟩
abbrev S8 : Shape := ⟨1, ![8]⟩
abbrev S4 : Shape := ⟨1, ![4]⟩
abbrev S7 : Shape := ⟨1, ![7]⟩
abbrev S2 : Shape := ⟨1, ![2]⟩
abbrev S_ : Shape := ⟨0, ![]⟩
abbrev S1x512x512 : Shape := ⟨3, ![1, 512, 512]⟩
abbrev S512x512 : Shape := ⟨2, ![512, 512]⟩
abbrev S1x512x2048 : Shape := ⟨3, ![1, 512, 2048]⟩
abbrev S512x1024 : Shape := ⟨2, ![512, 1024]⟩
abbrev S1x512x1024 : Shape := ⟨3, ![1, 512, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S8x512x512, .f32⟩
  | .local _ .vmem, ⟨1, _⟩ => ⟨S4x512x2048, .f32⟩
  | .local _ .vmem, ⟨2, _⟩ => ⟨S7x512x512, .fp8e4m3⟩
  | .local _ .vmem, ⟨3, _⟩ => ⟨S8x512x512, .fp8e4m3⟩
  | .local _ .vmem, ⟨4, _⟩ => ⟨S2x512x1024, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c512_i32 : BitVec 32 := 512#32
  let v38 : BitVec 32 := Scalar.muli v4 c512_i32
  let c0_i32_32 : BitVec 32 := 0#32
  ![v38.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_69 : BitVec 32 := 512#32
  let v80 : BitVec 32 := Scalar.muli v2 c512_i32_69
  let c0_i32_74 : BitVec 32 := 0#32
  ![v80.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_75 : BitVec 32 := 512#32
  let v86 : BitVec 32 := Scalar.muli v2 c512_i32_75
  let c0_i32_80 : BitVec 32 := 0#32
  ![v86.toNat, 0]
def k0_off4 (d0 : Dev nD) (c1_i32_9 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_8 : BitVec 32 := 8#32
  let v17 : BitVec 32 := Scalar.addi v2 c8_i32_8
  let v18 : BitVec 32 := Scalar.subi v17 c1_i32_9
  let c8_i32_10 : BitVec 32 := 8#32
  let v19 : BitVec 32 := Scalar.remsi v18 c8_i32_10
  let c512_i32_81 : BitVec 32 := 512#32
  let v92 : BitVec 32 := Scalar.muli v19 c512_i32_81
  let c0_i32_86 : BitVec 32 := 0#32
  ![v92.toNat, 0]
def k0_dev1 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_100 : BitVec 32 := 1#32
  let v111 : BitVec 32 := Scalar.muli v4 c1_i32_100
  let v112 : BitVec 32 := Scalar.addi c0_i32_101 v111
  v112.toNat
def k0_dev2 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_103 : BitVec 32 := 1#32
  let v113 : BitVec 32 := Scalar.muli v6 c1_i32_103
  let v114 : BitVec 32 := Scalar.addi c0_i32_104 v113
  v114.toNat
def k0_dev3 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_106 : BitVec 32 := 1#32
  let v115 : BitVec 32 := Scalar.muli v8 c1_i32_106
  let v116 : BitVec 32 := Scalar.addi c0_i32_107 v115
  v116.toNat
def k0_dev4 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_109 : BitVec 32 := 1#32
  let v117 : BitVec 32 := Scalar.muli v10 c1_i32_109
  let v118 : BitVec 32 := Scalar.addi c0_i32_110 v117
  v118.toNat
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_112 : BitVec 32 := 1#32
  let v119 : BitVec 32 := Scalar.muli v12 c1_i32_112
  let v120 : BitVec 32 := Scalar.addi c0_i32_113 v119
  v120.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_115 : BitVec 32 := 1#32
  let v121 : BitVec 32 := Scalar.muli v14 c1_i32_115
  let v122 : BitVec 32 := Scalar.addi c0_i32_116 v121
  v122.toNat
def k0_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_118 : BitVec 32 := 1#32
  let v123 : BitVec 32 := Scalar.muli v16 c1_i32_118
  let v124 : BitVec 32 := Scalar.addi c0_i32_119 v123
  v124.toNat
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_135 : BitVec 32 := 0#32
  let c0_i32_136 : BitVec 32 := 0#32
  ![v2.toNat, 0, 0]
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_133 : BitVec 32 := 1#32
  let v136 : BitVec 32 := Scalar.muli v4 c1_i32_133
  let v137 : BitVec 32 := Scalar.addi c0_i32_134 v136
  v137.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_151 : BitVec 32 := 1#32
  let v157 : BitVec 32 := Scalar.muli v6 c1_i32_151
  let v158 : BitVec 32 := Scalar.addi c0_i32_152 v157
  v158.toNat
def k0_dev10 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_169 : BitVec 32 := 1#32
  let v178 : BitVec 32 := Scalar.muli v8 c1_i32_169
  let v179 : BitVec 32 := Scalar.addi c0_i32_170 v178
  v179.toNat
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_187 : BitVec 32 := 1#32
  let v199 : BitVec 32 := Scalar.muli v10 c1_i32_187
  let v200 : BitVec 32 := Scalar.addi c0_i32_188 v199
  v200.toNat
def k0_dev12 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_205 : BitVec 32 := 1#32
  let v220 : BitVec 32 := Scalar.muli v12 c1_i32_205
  let v221 : BitVec 32 := Scalar.addi c0_i32_206 v220
  v221.toNat
def k0_dev13 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_223 : BitVec 32 := 1#32
  let v241 : BitVec 32 := Scalar.muli v14 c1_i32_223
  let v242 : BitVec 32 := Scalar.addi c0_i32_224 v241
  v242.toNat
def k0_dev14 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_241 : BitVec 32 := 1#32
  let v262 : BitVec 32 := Scalar.muli v16 c1_i32_241
  let v263 : BitVec 32 := Scalar.addi c0_i32_242 v262
  v263.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v280 : Index := Scalar.indexCast v2
  let c0_254 : Index := 0#32
  let c0_255 : Index := 0#32
  ![v280.toNat, 0, 0]
def k0_off8 (d0 : Dev nD) (c1_i32_9 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_8 : BitVec 32 := 8#32
  let v17 : BitVec 32 := Scalar.addi v2 c8_i32_8
  let v18 : BitVec 32 := Scalar.subi v17 c1_i32_9
  let c8_i32_10 : BitVec 32 := 8#32
  let v19 : BitVec 32 := Scalar.remsi v18 c8_i32_10
  ![v19.toNat]
def k0_off9 (d0 : Dev nD) (c1_i32_9 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_8 : BitVec 32 := 8#32
  let v17 : BitVec 32 := Scalar.addi v2 c8_i32_8
  let v18 : BitVec 32 := Scalar.subi v17 c1_i32_9
  let c8_i32_10 : BitVec 32 := 8#32
  let v19 : BitVec 32 := Scalar.remsi v18 c8_i32_10
  let c0_i32_279 : BitVec 32 := 0#32
  let c0_i32_280 : BitVec 32 := 0#32
  ![v19.toNat, 0, 0]
def k0_off10 (d0 : Dev nD) (c1_i32_9 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_8 : BitVec 32 := 8#32
  let v17 : BitVec 32 := Scalar.addi v2 c8_i32_8
  let v18 : BitVec 32 := Scalar.subi v17 c1_i32_9
  let c8_i32_10 : BitVec 32 := 8#32
  let v19 : BitVec 32 := Scalar.remsi v18 c8_i32_10
  let v320 : Index := Scalar.indexCast v19
  let c0_288 : Index := 0#32
  let c0_289 : Index := 0#32
  ![v320.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Proto.lean ====
/-
# 01_k — `Proto`: the exchange's cells, contents and schedule

Eight devices, all to all. Device `c` keeps the rows of `x` that are its own output rows and sends, for
`k = 0 … 6`, the block of rows that belongs to device `pr c k` (the device `k + 1` places after `c`) into slot `c`
of that device's receive buffer. Before any transfer every device signals the barrier semaphore of the seven others
and waits for seven units on its own.

Under the rounds library (`Lib/Rounds.lean`) every cell has one round, round 0:

* a barrier cell of `c` has seven duties, `Fin 7`; duty `k` is paid by device `pr c k`, who hands over slot `c`
  of ITS receive buffer (the slot `c` will write) and the fact that it has reached round 0 of that slot's cell;
* the receive cell of slot `s` on device `d` has duty `0`, paid by device `s`'s transfer: the slot, written with `s`'s block;
* send cell `k` of `c` has duty `0`, paid by the departure of the transfer number `k`: the send slot, back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 7`),
beside the counters of the local transfers -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device `k + 1` places after `c`. -/
def pr (c : Dev nD) (k : ℕ) : Dev nD := ⟨(c.val + k + 1) % 8, Nat.mod_lt _ (by decide)⟩

theorem pr_val (c : Dev nD) (k : ℕ) : (pr c k).val = (c.val + k + 1) % 8 := rfl

theorem pr_back (c : Dev nD) (k j : ℕ) (h : k + j = 6) : pr (pr c k) j = c := by
  apply Fin.ext
  have hc : c.val < 8 := c.isLt
  show ((c.val + k + 1) % 8 + j + 1) % 8 = c.val
  omega

theorem pr_back0 (c : Dev nD) : pr (pr c 0) 6 = c := pr_back c 0 6 rfl
theorem pr_back1 (c : Dev nD) : pr (pr c 1) 5 = c := pr_back c 1 5 rfl
theorem pr_back2 (c : Dev nD) : pr (pr c 2) 4 = c := pr_back c 2 4 rfl
theorem pr_back3 (c : Dev nD) : pr (pr c 3) 3 = c := pr_back c 3 3 rfl
theorem pr_back4 (c : Dev nD) : pr (pr c 4) 2 = c := pr_back c 4 2 rfl
theorem pr_back5 (c : Dev nD) : pr (pr c 5) 1 = c := pr_back c 5 1 rfl
theorem pr_back6 (c : Dev nD) : pr (pr c 6) 0 = c := pr_back c 6 0 rfl

theorem pr_ne (c : Dev nD) (k : ℕ) (hk : k < 7) : pr c k ≠ c := by
  intro h
  have h' : (c.val + k + 1) % 8 = c.val := congrArg Fin.val h
  have hc : c.val < 8 := c.isLt
  omega

theorem pr_inj (c : Dev nD) {k j : ℕ} (hk : k < 7) (hj : j < 7) (h : pr c k = pr c j) : k = j := by
  have h' : (c.val + k + 1) % 8 = (c.val + j + 1) % 8 := congrArg Fin.val h
  have hc : c.val < 8 := c.isLt
  omega

/-- The `device_id` chains: signal `K` and transfer `K` of device `c` name `pr c K`. -/
theorem dev1_eq (c : Dev nD) : (⟨k0_dev1 c, k0_dev1_lt c⟩ : Dev nD) = pr c 0 := Fin.ext (k0_dev1_eq c)
theorem dev2_eq (c : Dev nD) : (⟨k0_dev2 c, k0_dev2_lt c⟩ : Dev nD) = pr c 1 := Fin.ext (k0_dev2_eq c)
theorem dev3_eq (c : Dev nD) : (⟨k0_dev3 c, k0_dev3_lt c⟩ : Dev nD) = pr c 2 := Fin.ext (k0_dev3_eq c)
theorem dev4_eq (c : Dev nD) : (⟨k0_dev4 c, k0_dev4_lt c⟩ : Dev nD) = pr c 3 := Fin.ext (k0_dev4_eq c)
theorem dev5_eq (c : Dev nD) : (⟨k0_dev5 c, k0_dev5_lt c⟩ : Dev nD) = pr c 4 := Fin.ext (k0_dev5_eq c)
theorem dev6_eq (c : Dev nD) : (⟨k0_dev6 c, k0_dev6_lt c⟩ : Dev nD) = pr c 5 := Fin.ext (k0_dev6_eq c)
theorem dev7_eq (c : Dev nD) : (⟨k0_dev7 c, k0_dev7_lt c⟩ : Dev nD) = pr c 6 := Fin.ext (k0_dev7_eq c)
theorem dev8_eq (c : Dev nD) : (⟨k0_dev8 c, k0_dev8_lt c⟩ : Dev nD) = pr c 0 := Fin.ext (k0_dev8_eq c)
theorem dev9_eq (c : Dev nD) : (⟨k0_dev9 c, k0_dev9_lt c⟩ : Dev nD) = pr c 1 := Fin.ext (k0_dev9_eq c)
theorem dev10_eq (c : Dev nD) : (⟨k0_dev10 c, k0_dev10_lt c⟩ : Dev nD) = pr c 2 := Fin.ext (k0_dev10_eq c)
theorem dev11_eq (c : Dev nD) : (⟨k0_dev11 c, k0_dev11_lt c⟩ : Dev nD) = pr c 3 := Fin.ext (k0_dev11_eq c)
theorem dev12_eq (c : Dev nD) : (⟨k0_dev12 c, k0_dev12_lt c⟩ : Dev nD) = pr c 4 := Fin.ext (k0_dev12_eq c)
theorem dev13_eq (c : Dev nD) : (⟨k0_dev13 c, k0_dev13_lt c⟩ : Dev nD) = pr c 5 := Fin.ext (k0_dev13_eq c)
theorem dev14_eq (c : Dev nD) : (⟨k0_dev14 c, k0_dev14_lt c⟩ : Dev nD) = pr c 6 := Fin.ext (k0_dev14_eq c)

/-! ## The memrefs -/

abbrev xA : Memref sig .tc .hbm S4096x512 .f32 := Memref.whole main_arg0
abbrev wA : Memref sig .tc .hbm S4096x2048 .f32 := Memref.whole main_arg1
abbrev oA : Memref sig .tc .hbm S512x2048 .f32 := Memref.whole main_v1
abbrev xV : Memref sig .tc .vmem S8x512x512 .f32 := Memref.whole cc0_scratch0
abbrev wV : Memref sig .tc .vmem S4x512x2048 .f32 := Memref.whole cc0_scratch1
abbrev sV : Memref sig .tc .vmem S7x512x512 .fp8e4m3 := Memref.whole cc0_scratch2
abbrev rV : Memref sig .tc .vmem S8x512x512 .fp8e4m3 := Memref.whole cc0_scratch3
abbrev yV : Memref sig .tc .vmem S2x512x1024 .f32 := Memref.whole cc0_scratch4

theorem inb7 (k : ℕ) (h : k < 7) : ∀ a, ![k, 0, 0] a + S1x512x512.size a ≤ S7x512x512.size a := by
  intro a; match a with
  | ⟨0, _⟩ => show k + 1 ≤ 7; omega
  | ⟨1, _⟩ => exact Nat.le_refl _
  | ⟨2, _⟩ => exact Nat.le_refl _
theorem inb8 (k : ℕ) (h : k < 8) : ∀ a, ![k, 0, 0] a + S1x512x512.size a ≤ S8x512x512.size a := by
  intro a; match a with
  | ⟨0, _⟩ => show k + 1 ≤ 8; omega
  | ⟨1, _⟩ => exact Nat.le_refl _
  | ⟨2, _⟩ => exact Nat.le_refl _
theorem inb4 (k : ℕ) (h : k < 4) : ∀ a, ![k, 0, 0] a + S1x512x2048.size a ≤ S4x512x2048.size a := by
  intro a; match a with
  | ⟨0, _⟩ => show k + 1 ≤ 4; omega
  | ⟨1, _⟩ => exact Nat.le_refl _
  | ⟨2, _⟩ => exact Nat.le_refl _
theorem inb2 (k : ℕ) (h : k < 2) : ∀ a, ![k, 0, 0] a + S1x512x1024.size a ≤ S2x512x1024.size a := by
  intro a; match a with
  | ⟨0, _⟩ => show k + 1 ≤ 2; omega
  | ⟨1, _⟩ => exact Nat.le_refl _
  | ⟨2, _⟩ => exact Nat.le_refl _
theorem inbS7 (k : ℕ) (h : k < 7) : ∀ a, ![k] a + S1.size a ≤ S7.size a := by
  intro a; match a with | ⟨0, _⟩ => show k + 1 ≤ 7; omega
theorem inbS8 (k : ℕ) (h : k < 8) : ∀ a, ![k] a + S1.size a ≤ S8.size a := by
  intro a; match a with | ⟨0, _⟩ => show k + 1 ≤ 8; omega
theorem inbS4 (k : ℕ) (h : k < 4) : ∀ a, ![k] a + S1.size a ≤ S4.size a := by
  intro a; match a with | ⟨0, _⟩ => show k + 1 ≤ 4; omega
theorem inbS2 (k : ℕ) (h : k < 2) : ∀ a, ![k] a + S1.size a ≤ S2.size a := by
  intro a; match a with | ⟨0, _⟩ => show k + 1 ≤ 2; omega

/-- Slot `k` of the landing buffer of `x`, of `w`'s, of the send buffer, of the output's staging buffer. -/
abbrev xSl (k : ℕ) (h : k < 8 := by decide) : Memref sig .tc .vmem S512x512 .f32 :=
  ((xV : Memref sig .tc .vmem S8x512x512 .f32).slice (Rect.unit (s := S8x512x512) ![k, 0, 0] S1x512x512.size (inb8 k h)) (fun _ => rfl)).squeeze S512x512 squeezes_S1x512x512_S512x512
abbrev wSl (k : ℕ) (h : k < 4 := by decide) : Memref sig .tc .vmem S512x2048 .f32 :=
  ((wV : Memref sig .tc .vmem S4x512x2048 .f32).slice (Rect.unit (s := S4x512x2048) ![k, 0, 0] S1x512x2048.size (inb4 k h)) (fun _ => rfl)).squeeze S512x2048 squeezes_S1x512x2048_S512x2048
abbrev sSl (k : ℕ) (h : k < 7 := by decide) : Memref sig .tc .vmem S512x512 .fp8e4m3 :=
  ((sV : Memref sig .tc .vmem S7x512x512 .fp8e4m3).slice (Rect.unit (s := S7x512x512) ![k, 0, 0] S1x512x512.size (inb7 k h)) (fun _ => rfl)).squeeze S512x512 squeezes_S1x512x512_S512x512
abbrev ySl (k : ℕ) (h : k < 2 := by decide) : Memref sig .tc .vmem S512x1024 .f32 :=
  ((yV : Memref sig .tc .vmem S2x512x1024 .f32).slice (Rect.unit (s := S2x512x1024) ![k, 0, 0] S1x512x1024.size (inb2 k h)) (fun _ => rfl)).squeeze S512x1024 squeezes_S1x512x1024_S512x1024
/-- Slot `s` of the receive buffer: the one device `s`'s block lands in. -/
abbrev rSl (s : Dev nD) : Memref sig .tc .vmem S512x512 .fp8e4m3 :=
  ((rV : Memref sig .tc .vmem S8x512x512 .fp8e4m3).slice (Rect.unit (s := S8x512x512) (k0_off6 s) S1x512x512.size (k0_off6_inb s)) (fun _ => rfl)).squeeze S512x512 squeezes_S1x512x512_S512x512
/-- The two halves of the result's columns. -/
abbrev oLo : Memref sig .tc .hbm S512x1024 .f32 :=
  (oA : Memref sig .tc .hbm S512x2048 .f32).slice (Rect.unit (s := S512x2048) ![0, 0] S512x1024.size inb_S512x2048_S512x1024_0_0) (fun _ => rfl)
abbrev oHi : Memref sig .tc .hbm S512x1024 .f32 :=
  (oA : Memref sig .tc .hbm S512x2048 .f32).slice (Rect.unit (s := S512x2048) ![0, 1024] S512x1024.size inb_S512x2048_S512x1024_0_1024) (fun _ => rfl)

/-! ## The semaphores and cells -/

/-- The runtime's barrier semaphore (unscoped), and the kernel's five arrays of DMA semaphores. -/
abbrev barS : Sem sig := (SemArray.scalar (sig.barrier 0 rfl) : Sems sig S_).sem
abbrev xS (k : ℕ) (h : k < 8 := by decide) : DmaSem sig := ((cc0_scratch5.slice (Rect.unit (s := S8) ![k] S1.size (inbS8 k h))).squeeze S_ squeezes_S1_S_).sem
abbrev wS (k : ℕ) (h : k < 4 := by decide) : DmaSem sig := ((cc0_scratch6.slice (Rect.unit (s := S4) ![k] S1.size (inbS4 k h))).squeeze S_ squeezes_S1_S_).sem
abbrev sS (k : ℕ) (h : k < 7 := by decide) : DmaSem sig := ((cc0_scratch7.slice (Rect.unit (s := S7) ![k] S1.size (inbS7 k h))).squeeze S_ squeezes_S1_S_).sem
abbrev rS (s : Dev nD) : DmaSem sig := ((cc0_scratch8.slice (Rect.unit (s := S8) (k0_off5 s) S1.size (k0_off5_inb s))).squeeze S_ squeezes_S1_S_).sem
abbrev yS (k : ℕ) (h : k < 2 := by decide) : DmaSem sig := ((cc0_scratch9.slice (Rect.unit (s := S2) ![k] S1.size (inbS2 k h))).squeeze S_ squeezes_S1_S_).sem

abbrev barCell (c : Dev nD) : GSem nD τ sig := ((c : Thread nD τ), .reg barS)
abbrev sendCell (c : Dev nD) (k : ℕ) (h : k < 7 := by decide) : GSem nD τ sig := ((c : Thread nD τ), .dma (sS k h))
abbrev recvCell (d s : Dev nD) : GSem nD τ sig := ((d : Thread nD τ), .dma (rS s))

/-- Which semaphore is the receive semaphore of a slot, and which the send semaphore of a transfer. -/
def recvIx (sm : SemLoc sig) : Option (Dev nD) := (List.finRange 8).find? fun s => decide (sm = .dma (rS s))
def sendIx (sm : SemLoc sig) : Option (Fin 7) := (List.finRange 7).find? fun k => decide (sm = .dma (sS k.val k.isLt))

set_option maxRecDepth 100000 in
theorem recvIx_r (s : Dev nD) : recvIx (.dma (rS s)) = some s := by revert s; decide
set_option maxRecDepth 100000 in
theorem recvIx_s (k : Fin 7) : recvIx (.dma (sS k.val k.isLt)) = none := by revert k; decide
set_option maxRecDepth 100000 in
theorem sendIx_s (k : Fin 7) : sendIx (.dma (sS k.val k.isLt)) = some k := by revert k; decide
set_option maxRecDepth 100000 in
theorem recvIx_bar : recvIx (.reg barS) = none := by decide
set_option maxRecDepth 100000 in
theorem sendIx_r (s : Dev nD) : sendIx (.dma (rS s)) = none := by revert s; decide
set_option maxRecDepth 100000 in
theorem recvIx_x (k : Fin 8) : recvIx (.dma (xS k.val k.isLt)) = none := by revert k; decide

/-- One transfer's credit. -/
abbrev N : ℕ := (sSl 0 : Memref sig .tc .vmem S512x512 .fp8e4m3).view.dmaCredit
theorem N_pos : 0 < N := View.dmaCredit_pos _ (by decide)

end Cert.KernelIdeal.Proto

end
-- ==== Proof.Sched.lean ====
/-
# 01_k — `Sched`: what the buffers hold, the exchange's schedule, its tables, the debts and the levels
-/
module

public import proofs.«01_k».proof.Proof.Proto

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's spellings of a receive slot and its semaphore, by the sender's name -/

theorem off9_pr (c : Dev nD) (r : Fin 7) : k0_off9 c (BitVec.ofNat 32 (1 + r.val)) = k0_off6 (pr c (6 - r.val)) := by
  rw [k0_off9_eq, k0_off6_eq, pr_val]
  congr 1
  have hc : c.val < 8 := c.isLt
  have hr : r.val < 7 := r.isLt
  omega
theorem off10_pr (c : Dev nD) (r : Fin 7) : k0_off10 c (BitVec.ofNat 32 (1 + r.val)) = k0_off6 (pr c (6 - r.val)) := by
  rw [k0_off10_eq, k0_off6_eq, pr_val]
  congr 1
  have hc : c.val < 8 := c.isLt
  have hr : r.val < 7 := r.isLt
  omega
theorem off8_pr (c : Dev nD) (r : Fin 7) : k0_off8 c (BitVec.ofNat 32 (1 + r.val)) = k0_off5 (pr c (6 - r.val)) := by
  rw [k0_off8_eq, k0_off5_eq, pr_val]
  congr 1
  have hc : c.val < 8 := c.isLt
  have hr : r.val < 7 := r.isLt
  omega

theorem slot_canon (c : Dev nD) (r : Fin 7) (h : ∀ a, k0_off9 c (BitVec.ofNat 32 (1 + r.val)) a + S1x512x512.size a ≤ S8x512x512.size a) :
    ((rV : Memref sig .tc .vmem S8x512x512 .fp8e4m3).slice (Rect.unit (s := S8x512x512) (k0_off9 c (BitVec.ofNat 32 (1 + r.val))) S1x512x512.size h) (fun _ => rfl)).squeeze S512x512 squeezes_S1x512x512_S512x512
      = rSl (pr c (6 - r.val)) :=
  congrArg (fun M : Memref sig .tc .vmem S1x512x512 .fp8e4m3 => M.squeeze S512x512 squeezes_S1x512x512_S512x512)
    (Memref.slice_unit_congr _ (off9_pr c r) _ _ _ fun _ => rfl)
theorem sem_canon (c : Dev nD) (r : Fin 7) (h : ∀ a, k0_off8 c (BitVec.ofNat 32 (1 + r.val)) a + S1.size a ≤ S8.size a) :
    ((cc0_scratch8.slice (Rect.unit (s := S8) (k0_off8 c (BitVec.ofNat 32 (1 + r.val))) S1.size h)).squeeze S_ squeezes_S1_S_).sem = rS (pr c (6 - r.val)) :=
  congrArg (fun M : DmaSems sig S1 => (M.squeeze S_ squeezes_S1_S_).sem)
    (SemArray.slice_unit_congr _ (off8_pr c r) _ _)

/-! ## Contents -/

/-- Block `s` (512 rows) of device `c`'s columns of `x`. -/
def xblk (c s : Dev nD) : Vec F S1x512x512 .f32 := fun j =>
  m ((c : Thread nD τ).loc main_arg0) (ix2 (⟨512 * s.val + (j 1).val, by have h1 : (j 1).val < 512 := (j 1).isLt; have h2 : s.val < 8 := s.isLt; omega⟩ : Fin 4096) (j 2))
/-- Block `s` (512 rows) of device `c`'s copy of `w`. -/
def wblk (c s : Dev nD) : Vec F S1x512x2048 .f32 := fun j =>
  m ((c : Thread nD τ).loc main_arg1) (ix2 (⟨512 * s.val + (j 1).val, by have h1 : (j 1).val < 512 := (j 1).isLt; have h2 : s.val < 8 := s.isLt; omega⟩ : Fin 4096) (j 2))
/-- The block of `x` device `c` has for device `s`, in the narrow format. -/
def XT (c s : Dev nD) : FVec F S1x512x512 .fp8e4m3 := k0_pay2 (k0_pay1 (xblk m c s))
/-- The same as a matrix. -/
def XM (c s : Dev nD) : FVec F S512x512 .fp8e4m3 := fun j => XT m c s (ix3 (0 : Fin 1) (j 0) (j 1))
/-- The send buffer once slot `k` holds the block for `pr c k`. -/
def sendC (c : Dev nD) : Buf (Elt F) ((c : Thread nD τ).loc cc0_scratch2) := fun i =>
  XT m c (pr c (i 0).val) (ix3 (0 : Fin 1) (i 1) (i 2))

/-! ## The slots as assertions -/

/-- Slot `s` of device `d`'s receive buffer at contents `f`. -/
abbrev slotPts (d s : Dev nD) (f : Buf (Elt F) ((rSl s).view.loc (d : Thread nD τ))) : sProp 𝕄 :=
  (rSl s).view.loc (d : Thread nD τ) ↦[(rSl s).view.set]{fullShare} f
/-- Send slot `k` of device `c`, filled. -/
abbrev sendPts (c : Dev nD) (k : ℕ) (h : k < 7 := by decide) : sProp 𝕄 :=
  (sSl k h).view.loc (c : Thread nD τ) ↦[(sSl k h).view.set]{fullShare} sendC m c

def barPay (c : Dev nD) (k : ℕ) : sProp 𝕄 := iprop((∃ f, slotPts (pr c k) c f) ∗ reached ER (recvCell (pr c k) c) 0)
def recvPay (d s : Dev nD) : sProp 𝕄 :=
  iprop(∃ fd : Buf (Elt F) ((rSl s).view.loc (d : Thread nD τ)), slotPts d s ((rSl s).view.write (Elt F) fd (XM m s d) Finset.univ))
def sendPay (c : Dev nD) (k : ℕ) (h : k < 7) : sProp 𝕄 := sendPts m c k h

/-! ## The schedule -/

abbrev IsBar (g : GSem nD τ sig) : Prop := g.1.2 = .tc ∧ g.2 = .reg barS
abbrev IsXfer (g : GSem nD τ sig) : Prop := g.1.2 = .tc ∧ ((recvIx g.2).isSome ∨ (sendIx g.2).isSome)

def exRd : Rounds.Schedule (GSem nD τ sig) (Fin 7) 𝕄 where
  duties g r := if r = 0 ∧ IsBar g then {0, 1, 2, 3, 4, 5, 6} else if r = 0 ∧ IsXfer g then {0} else ∅
  unitless _ := False
  amount g _ _ := if g.2 = .reg barS then 1 else N
  payload g _ d :=
    if g.2 = .reg barS then barPay g.1.1 d.val
    else match recvIx g.2 with
      | some s => recvPay m g.1.1 s
      | none => match sendIx g.2 with
        | some k => sendPay m g.1.1 k.val k.isLt
        | none => iprop(emp)
  amount_pos g _ _ _ := by
    by_cases h : g.2 = .reg barS
    · rw [if_pos h]; exact Nat.one_pos
    · rw [if_neg h]; exact N_pos

instance exRd_payload_storable (g : GSem nD τ sig) (r : ℕ) (d : Fin 7) :
    BI.Storable (upEmb : UEmb _ 𝕄) ((exRd (F := F) m).payload g r d) := by
  show BI.Storable upEmb (if g.2 = .reg barS then barPay g.1.1 d.val
    else match recvIx g.2 with
      | some s => recvPay m g.1.1 s
      | none => match sendIx g.2 with
        | some k => sendPay m g.1.1 k.val k.isLt
        | none => iprop(emp))
  unfold barPay recvPay sendPay
  (repeat' split) <;> infer_instance

section Sched

theorem recv_ne_bar (s : Dev nD) : (SemLoc.dma (rS s) : SemLoc sig) ≠ .reg barS := fun h => by cases h
theorem send_ne_bar (k : ℕ) (h : k < 7) : (SemLoc.dma (sS k h) : SemLoc sig) ≠ .reg barS := fun h => by cases h

omit [FloatOps F] in
theorem not_bar_dma (t : Thread nD τ) (q : DmaSem sig) : ¬ IsBar (t, SemLoc.dma q) := fun h => by cases h.2

theorem duties_bar (c : Dev nD) : (exRd (F := F) m).duties (barCell c) 0 = {0, 1, 2, 3, 4, 5, 6} := by
  dsimp only [exRd]; exact if_pos ⟨rfl, rfl, rfl⟩
theorem duties_recv (d s : Dev nD) : (exRd (F := F) m).duties (recvCell d s) 0 = {0} := by
  dsimp only [exRd]; rw [if_neg (fun h => not_bar_dma _ _ h.2)]
  exact if_pos ⟨rfl, rfl, .inl (by rw [recvIx_r]; rfl)⟩
theorem duties_send (c : Dev nD) (k : ℕ) (h : k < 7) : (exRd (F := F) m).duties (sendCell c k h) 0 = {0} := by
  dsimp only [exRd]; rw [if_neg (fun h => not_bar_dma _ _ h.2)]
  exact if_pos ⟨rfl, rfl, .inr (by rw [sendIx_s ⟨k, h⟩]; rfl)⟩
theorem duties_later (g : GSem nD τ sig) : ∀ r, 1 ≤ r → (exRd (F := F) m).duties g r = ∅ :=
  fun r hr => by dsimp only [exRd]; rw [if_neg fun h => by omega, if_neg fun h => by omega]

theorem amount_bar (c : Dev nD) (d : Fin 7) : (exRd (F := F) m).amount (barCell c) 0 d = 1 := by dsimp only [exRd]; exact if_pos rfl
theorem amount_recv (c s : Dev nD) (d : Fin 7) : (exRd (F := F) m).amount (recvCell c s) 0 d = N := by
  dsimp only [exRd]; exact if_neg (recv_ne_bar s)
theorem amount_send (c : Dev nD) (k : ℕ) (h : k < 7) (d : Fin 7) : (exRd (F := F) m).amount (sendCell c k h) 0 d = N := by
  dsimp only [exRd]; exact if_neg (send_ne_bar k h)

theorem expect_bar (c : Dev nD) : (exRd (F := F) m).expect (barCell c) 0 = 7 := by
  unfold Schedule.expect Schedule.amountOf
  rw [duties_bar, Finset.sum_congr rfl fun d _ => amount_bar m c d, Finset.sum_const]; rfl
theorem expect_recv (d s : Dev nD) : (exRd (F := F) m).expect (recvCell d s) 0 = N := by
  unfold Schedule.expect Schedule.amountOf; rw [duties_recv, Finset.sum_singleton, amount_recv]
theorem expect_send (c : Dev nD) (k : ℕ) (h : k < 7) : (exRd (F := F) m).expect (sendCell c k h) 0 = N := by
  unfold Schedule.expect Schedule.amountOf; rw [duties_send, Finset.sum_singleton, amount_send]

theorem payload_bar (c : Dev nD) (d : Fin 7) : (exRd (F := F) m).payload (barCell c) 0 d = barPay c d.val := by
  dsimp only [exRd]; exact if_pos rfl
theorem payload_recv (c s : Dev nD) (d : Fin 7) : (exRd (F := F) m).payload (recvCell c s) 0 d = recvPay m c s := by
  dsimp only [exRd]; rw [if_neg (recv_ne_bar s), recvIx_r]
theorem payload_send (c : Dev nD) (k : ℕ) (h : k < 7) (d : Fin 7) : (exRd (F := F) m).payload (sendCell c k h) 0 d = sendPts m c k h := by
  dsimp only [exRd]; rw [if_neg (send_ne_bar k h), recvIx_s ⟨k, h⟩, sendIx_s ⟨k, h⟩]; rfl

end Sched

/-! ## The contents of a slot, read -/

/-- Send slot `k`, filled, read as a matrix. -/
theorem read_send (c : Dev nD) (k : ℕ) (h : k < 7) : (sSl k h).view.read (Elt F) (sendC m c) = XM m c (pr c k) := by
  funext j
  have h1 : (sSl k h).view.read (Elt F) (sendC m c) j
      = sendC m c ((Rect.unit (s := S7x512x512) ![k, 0, 0] S1x512x512.size (inb7 k h)).emb (Shape.reshapeEquiv squeezes_S1x512x512_S512x512.numel_eq j)) := rfl
  rw [h1, Shape.reshapeEquiv_cons_one]
  have h2 : (Rect.unit (s := S7x512x512) ![k, 0, 0] S1x512x512.size (inb7 k h)).emb (Fin.cons ⟨0, Nat.one_pos⟩ j) = ix3 (⟨k, h⟩ : Fin 7) (j 0) (j 1) := by
    funext a
    apply Fin.ext
    rw [Rect.emb_apply]
    match a with
    | ⟨0, _⟩ => show k + 1 * 0 = k; omega
    | ⟨1, _⟩ => show 0 + 1 * (j 0).val = (j 0).val; omega
    | ⟨2, _⟩ => show 0 + 1 * (j 1).val = (j 1).val; omega
  rw [h2]
  rfl

/-! ## The tables as the executor reads them -/

/-- `c`'s signal to `pr c k`: duty `6 - k` of that device's barrier cell hands over `c`'s own slot for it. -/
theorem payload_bar' (c : Dev nD) (d : Fin 7) :
    (exRd (F := F) m).payload (barCell c) 0 d = iprop((∃ f, slotPts (pr c d.val) c f) ∗ reached ER (recvCell (pr c d.val) c) 0) := payload_bar m c d
/-- The transfer's payload as the sender writes it. -/
theorem payload_recv_out (c : Dev nD) (k : ℕ) (h : k < 7) (d : Fin 7) :
    (exRd (F := F) m).payload (recvCell (pr c k) c) 0 d
      = iprop(∃ fd : Buf (Elt F) ((rSl c).view.loc (pr c k : Thread nD τ)),
          (rSl c).view.loc (pr c k : Thread nD τ) ↦[(rSl c).view.set]{fullShare} (rSl c).view.write (Elt F) fd ((sSl k h).view.read (Elt F) (sendC m c)) Finset.univ) := by
  rw [payload_recv, read_send]; rfl
/-- The same as the receiver reads it. -/
theorem payload_recv_in (c : Dev nD) (k : ℕ) (d : Fin 7) :
    (exRd (F := F) m).payload (recvCell c (pr c k)) 0 d
      = iprop(∃ fd : Buf (Elt F) ((rSl (pr c k)).view.loc (c : Thread nD τ)),
          (rSl (pr c k)).view.loc (c : Thread nD τ) ↦[(rSl (pr c k)).view.set]{fullShare} (rSl (pr c k)).view.write (Elt F) fd (XM m (pr c k) c) Finset.univ) := payload_recv m c (pr c k) d

/-! ## What each device owes at launch; the levels -/

/-- The credits device `c` owes from its transfer `k` on. -/
def oweR (c : Dev nD) (k : ℕ) : CellTallies nD τ sig Unit := ∑ j ∈ Finset.Ico k 7, tallyAt (recvCell (pr c j) c) () N
/-- What it owes from its signal `k` on: the signals' units, and every transfer's credit. -/
def oweB (c : Dev nD) (k : ℕ) : CellTallies nD τ sig Unit := oweR c 0 + ∑ j ∈ Finset.Ico k 7, tallyAt (barCell (pr c j)) () 1
abbrev O₀ (c : Dev nD) : CellTallies nD τ sig Unit := oweB c 0

theorem oweR_peel (c : Dev nD) (k : ℕ) (h : k < 7) : oweR c k = oweR c (k + 1) + tallyAt (recvCell (pr c k) c) () N := by
  unfold oweR; rw [Finset.sum_eq_sum_Ico_succ_bot h, add_comm]
theorem oweR_end (c : Dev nD) : oweR c 7 = 0 := by unfold oweR; rw [Finset.Ico_self, Finset.sum_empty]
theorem oweB_peel (c : Dev nD) (k : ℕ) (h : k < 7) : oweB c k = oweB c (k + 1) + tallyAt (barCell (pr c k)) () 1 := by
  unfold oweB; rw [Finset.sum_eq_sum_Ico_succ_bot h, add_assoc]; congr 1; exact add_comm _ _
theorem oweB_end (c : Dev nD) : oweB c 7 = oweR c 0 := by unfold oweB; rw [Finset.Ico_self, Finset.sum_empty, add_zero]

def L (g : GSem nD τ sig) : Finset Unit := if g.1.2 = .tc then {()} else ∅
/-- Barrier cells at 1, receive cells at 2, everything else at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (d s : Dev nD) : lv (recvCell d s) () = 2 := by
  unfold lv; rw [if_neg (recv_ne_bar s)]; exact if_pos (by rw [recvIx_r]; rfl)

theorem tally_sum_pos {ι : Type} (S : Finset ι) (f : ι → CellTallies nD τ sig Unit) {g : GSem nD τ sig} {u : Unit} (h : 0 < (∑ j ∈ S, f j) g u) :
    ∃ j ∈ S, 0 < f j g u := by
  classical
  induction S using Finset.induction_on with
  | empty => rw [Finset.sum_empty] at h; exact absurd h (Nat.lt_irrefl 0)
  | insert a S ha ih =>
    rw [Finset.sum_insert ha, Pi.add_apply, Finsupp.add_apply] at h
    by_cases h0 : 0 < f a g u
    · exact ⟨a, Finset.mem_insert_self _ _, h0⟩
    · obtain ⟨j, hj, hp⟩ := ih (by omega)
      exact ⟨j, Finset.mem_insert_of_mem hj, hp⟩
theorem tallyAt_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h
theorem oweR_pos {c : Dev nD} {k : ℕ} {g : GSem nD τ sig} {u : Unit} (h : 0 < oweR c k g u) : ∃ d s : Dev nD, g = recvCell d s := by
  obtain ⟨j, -, hp⟩ := tally_sum_pos _ _ h
  exact ⟨_, _, tallyAt_pos hp⟩
theorem oweB_pos {c : Dev nD} {k : ℕ} {g : GSem nD τ sig} {u : Unit} (h : 0 < oweB c k g u) :
    (∃ d s : Dev nD, g = recvCell d s) ∨ ∃ d : Dev nD, g = barCell d := by
  unfold oweB at h
  rw [Pi.add_apply, Finsupp.add_apply] at h
  by_cases h0 : 0 < oweR c 0 g u
  · exact .inl (oweR_pos h0)
  · obtain ⟨j, -, hp⟩ := tally_sum_pos _ _ (show 0 < (∑ j ∈ Finset.Ico k 7, tallyAt (barCell (pr c j)) () 1) g u by omega)
    exact .inr ⟨_, tallyAt_pos hp⟩

/-- A wait on a local semaphore while credits are owed. -/
theorem mayWait_local (c : Dev nD) (q : DmaSem sig) (hq : recvIx (.dma q) = none) (k : ℕ) :
    (levAts L lv : sProp 𝕄) ⊢ MayWait (c : Thread nD τ) (.dma q) () (oweR c k) :=
  MayOwe.of_cut (L := L) (lev := lv) 0 (fun p hp => by rw [Finset.mem_singleton.mp hp, L_tc]; exact Finset.mem_singleton_self _)
    (fun g u hg => by obtain ⟨d, s, rfl⟩ := oweR_pos hg; exact Finset.mem_singleton_self _)
    (fun p hp => by rw [Finset.mem_singleton.mp hp]; dsimp only [lv]; rw [if_neg (fun h => by cases h), hq]; exact Nat.le_refl 0)
    (fun g u hg => by obtain ⟨d, s, rfl⟩ := oweR_pos hg; exact (lv_recv d s).symm ▸ (by decide))
/-- The barrier wait: every credit is still owed, all of them to receive cells. -/
theorem mayWait_bar (c : Dev nD) : (levAts L lv : sProp 𝕄) ⊢ MayWait (c : Thread nD τ) (.reg barS) () (oweR c 0) :=
  MayOwe.of_cut (L := L) (lev := lv) 1 (fun p hp => by rw [Finset.mem_singleton.mp hp, L_tc]; exact Finset.mem_singleton_self _)
    (fun g u hg => by obtain ⟨d, s, rfl⟩ := oweR_pos hg; exact Finset.mem_singleton_self _)
    (fun p hp => by rw [Finset.mem_singleton.mp hp]; exact (lv_bar c).le)
    (fun g u hg => by obtain ⟨d, s, rfl⟩ := oweR_pos hg; exact (lv_recv d s).symm ▸ (by decide))
/-- The staging waits around the body. -/
theorem mayWait_stage (c : Dev nD) (q : DmaSem sig) (hq : recvIx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨d, s, rfl⟩ | ⟨d, rfl⟩ <;> exact Finset.mem_singleton_self _)
      (fun p hp => by rw [Finset.mem_singleton.mp hp]; dsimp only [lv]; rw [if_neg (fun h => by cases h), hq]; exact Nat.le_refl 0)
      (fun g u hg => by
        rcases oweB_pos hg with ⟨d, s, rfl⟩ | ⟨d, rfl⟩
        · exact (lv_recv d s).symm ▸ (by decide)
        · exact (lv_bar d).symm ▸ (by decide))
  · rw [MayWait_zero]; iintro -; iempintro

end Cert.KernelIdeal.Proto

end
-- ==== Proof.Slots.lean ====
/-
# 01_k — `Slots`: what a load of a slot reads after a transfer or a store into it

A buffer of `n` blocks of `a × b` is addressed in two ways: a transfer names block `k` as a matrix (a slice whose first
axis is squeezed away), a load or store names it as a block of one. The lemmas here read one through the other.
-/
module

public import proofs.«01_k».proof.Proof.Sched

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Generic

variable {n a b : ℕ}

/-- `n` blocks, one block, a block as a matrix. -/
abbrev Sn (n a b : ℕ) : Shape := ⟨3, ![n, a, b]⟩
abbrev Sm (a b : ℕ) : Shape := ⟨2, ![a, b]⟩

/-- Element `j` of the matrix that is block `k`. -/
theorem emb_slot {off : Fin 3 → ℕ} {k : ℕ} (hoff : off = ![k, 0, 0]) (hk : k < n) (inb : ∀ i, off i + (Sn 1 a b).size i ≤ (Sn n a b).size i)
    (hs : (Sm a b).numel = (Sn 1 a b).numel) (j : (Sm a b).Idx) :
    (Rect.unit (s := Sn n a b) off (Sn 1 a b).size inb).emb (Shape.reshapeEquiv hs j) = ix3 (⟨k, hk⟩ : Fin n) (j 0) (j 1) := by
  subst hoff
  rw [Shape.reshapeEquiv_cons_one]
  funext i
  apply Fin.ext
  rw [Rect.emb_apply]
  match i with
  | ⟨0, _⟩ => show k + 1 * 0 = k; omega
  | ⟨1, _⟩ => show 0 + 1 * (j 0).val = (j 0).val; omega
  | ⟨2, _⟩ => show 0 + 1 * (j 1).val = (j 1).val; omega
/-- Element `j` of the block of one. -/
theorem idx_slot {off : Fin 3 → ℕ} {k : ℕ} (hoff : off = ![k, 0, 0]) (hk : k < n) (inb : ∀ i, off i + (Sn 1 a b).size i ≤ (Sn n a b).size i)
    (j : (Sn 1 a b).Idx) :
    (Rect.unit (s := Sn n a b) off (Sn 1 a b).size inb).toLoadRect.idx j = ix3 (⟨k, hk⟩ : Fin n) (j 1) (j 2) := by
  subst hoff
  funext i
  apply Fin.ext
  have h0 : (j 0).val < 1 := (j 0).isLt
  match i with
  | ⟨0, _⟩ => show k + 1 * (j 0).val = k; omega
  | ⟨1, _⟩ => show 0 + 1 * (j 1).val = (j 1).val; omega
  | ⟨2, _⟩ => show 0 + 1 * (j 2).val = (j 2).val; omega

variable {Val : EltTy → Type} {sp : Space} {e : EltTy} (M : Memref sig .tc sp (Sn n a b) e)

/-- A load of block `k` reads what the matrix holds. -/
theorem load_slot {off off' : Fin 3 → ℕ} {k : ℕ} (hoff : off = ![k, 0, 0]) (hoff' : off' = ![k, 0, 0]) (hk : k < n)
    (inb : ∀ i, off i + (Sn 1 a b).size i ≤ (Sn n a b).size i) (inb' : ∀ i, off' i + (Sn 1 a b).size i ≤ (Sn n a b).size i)
    (hq : (Sn 1 a b).Squeezes (Sm a b)) (f : M.view.ty.Contents Val) :
    M.view.readAt Val (Rect.unit (s := Sn n a b) off (Sn 1 a b).size inb).toLoadRect f
      = fun j => ((M.slice (Rect.unit (s := Sn n a b) off' (Sn 1 a b).size inb') (fun _ => rfl)).squeeze (Sm a b) hq).view.read Val f (ix2 (j 1) (j 2)) := by
  funext j
  show M.view.read Val f _ = M.view.read Val f ((Rect.unit (s := Sn n a b) off' (Sn 1 a b).size inb').emb (Shape.reshapeEquiv hq.numel_eq (ix2 (j 1) (j 2))))
  rw [emb_slot hoff' hk, idx_slot hoff hk]
  rfl
/-- After a transfer of `p` into block `k`, a load of it reads `p`. -/
theorem load_landed {off off' : Fin 3 → ℕ} {k : ℕ} (hoff : off = ![k, 0, 0]) (hoff' : off' = ![k, 0, 0]) (hk : k < n)
    (inb : ∀ i, off i + (Sn 1 a b).size i ≤ (Sn n a b).size i) (inb' : ∀ i, off' i + (Sn 1 a b).size i ≤ (Sn n a b).size i)
    (hq : (Sn 1 a b).Squeezes (Sm a b)) (f : M.view.ty.Contents Val) (p : (Sm a b).Idx → Val e) (L : List (View.Piece Val (Sm a b) e)) :
    M.view.readAt Val (Rect.unit (s := Sn n a b) off (Sn 1 a b).size inb).toLoadRect
        (((M.slice (Rect.unit (s := Sn n a b) off' (Sn 1 a b).size inb') (fun _ => rfl)).squeeze (Sm a b) hq).view.writes Val f (⟨Rect.whole (Sm a b), p⟩ :: L))
      = fun j => p (ix2 (j 1) (j 2)) := by
  rw [load_slot M hoff hoff' hk inb inb' hq]
  funext j
  refine (View.read_writes_cons_hit _ _ (Rect.whole (Sm a b)) p L (ix2 (j 1) (j 2)) _ ?_)
  funext i
  apply Fin.ext
  match i with
  | ⟨0, _⟩ => show 0 + 1 * (j 1).val = (j 1).val; omega
  | ⟨1, _⟩ => show 0 + 1 * (j 2).val = (j 2).val; omega
/-- After one device's transfer of `p` into block `k`, a load of it reads `p`. -/
theorem load_written {off off' : Fin 3 → ℕ} {k : ℕ} (hoff : off = ![k, 0, 0]) (hoff' : off' = ![k, 0, 0]) (hk : k < n)
    (inb : ∀ i, off i + (Sn 1 a b).size i ≤ (Sn n a b).size i) (inb' : ∀ i, off' i + (Sn 1 a b).size i ≤ (Sn n a b).size i)
    (hq : (Sn 1 a b).Squeezes (Sm a b)) (f : M.view.ty.Contents Val) (p : (Sm a b).Idx → Val e) :
    M.view.readAt Val (Rect.unit (s := Sn n a b) off (Sn 1 a b).size inb).toLoadRect
        (((M.slice (Rect.unit (s := Sn n a b) off' (Sn 1 a b).size inb') (fun _ => rfl)).squeeze (Sm a b) hq).view.write Val f p Finset.univ)
      = fun j => p (ix2 (j 1) (j 2)) := by
  rw [load_slot M hoff hoff' hk inb inb' hq, View.read_write_univ]
/-- After a store of `v` to block `k`, the matrix holds `v`. -/
theorem read_stored {off off' : Fin 3 → ℕ} {k : ℕ} (hoff : off = ![k, 0, 0]) (hoff' : off' = ![k, 0, 0]) (hk : k < n)
    (inb : ∀ i, off i + (Sn 1 a b).size i ≤ (Sn n a b).size i) (inb' : ∀ i, off' i + (Sn 1 a b).size i ≤ (Sn n a b).size i)
    (hq : (Sn 1 a b).Squeezes (Sm a b)) (f : M.view.ty.Contents Val) (v : (Sn 1 a b).Idx → Val e) :
    ((M.slice (Rect.unit (s := Sn n a b) off' (Sn 1 a b).size inb') (fun _ => rfl)).squeeze (Sm a b) hq).view.read Val
        (View.write Val (M.access (Rect.unit (s := Sn n a b) off (Sn 1 a b).size inb)) f v Finset.univ)
      = fun j => v (ix3 (0 : Fin 1) (j 0) (j 1)) := by
  subst hoff; subst hoff'
  funext j
  show (M.access (Rect.unit (s := Sn n a b) ![k, 0, 0] (Sn 1 a b).size inb)).read Val (View.write Val (M.access (Rect.unit (s := Sn n a b) ![k, 0, 0] (Sn 1 a b).size inb)) f v Finset.univ)
    (Shape.reshapeEquiv hq.numel_eq j) = _
  rw [View.read_write_univ, Shape.reshapeEquiv_cons_one]
  refine congrArg v ?_
  funext i
  match i with
  | ⟨0, _⟩ => rfl
  | ⟨1, _⟩ => rfl
  | ⟨2, _⟩ => rfl

end Generic

end Cert.KernelIdeal.Proto

end
-- ==== Proof.Held.lean ====
/-
# 01_k — `Held`: what a device holds for each exchange, and its slots' contents along the run
-/
module

public import proofs.«01_k».proof.Proof.Slots

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the loads read -/

theorem one_block {e : EltTy} {a b : ℕ} (v : (Sn 1 a b).Idx → Elt F e) : (fun j : (Sn 1 a b).Idx => v (ix3 (0 : Fin 1) (j 1) (j 2))) = v := by
  funext j
  refine congrArg v ?_
  have h0 : (j 0).val < 1 := (j 0).isLt
  funext i
  apply Fin.ext
  match i with
  | ⟨0, _⟩ => show 0 = (j 0).val; omega
  | ⟨1, _⟩ => rfl
  | ⟨2, _⟩ => rfl

/-- A transfer out of `x` at row `512 s` moves block `s`. -/
theorem read_x (c s : Dev nD) {off : Fin 2 → ℕ} (hoff : off = ![512 * s.val, 0]) (inb : ∀ a, off a + S512x512.size a ≤ S4096x512.size a) :
    (xA.slice (Rect.unit (s := S4096x512) off S512x512.size inb) (fun _ => rfl)).view.read (Elt F) (m ((c : Thread nD τ).loc main_arg0))
      = fun j => xblk m c s (ix3 (0 : Fin 1) (j 0) (j 1)) := by
  subst hoff
  funext j
  refine congrArg (m ((c : Thread nD τ).loc main_arg0)) ?_
  funext i
  apply Fin.ext
  match i with
  | ⟨0, _⟩ => show 512 * s.val + 1 * (j 0).val = 512 * s.val + (j 0).val; omega
  | ⟨1, _⟩ => show 0 + 1 * (j 1).val = (j 1).val; omega
/-- A transfer out of `w` at row `512 s` moves block `s`. -/
theorem read_w (c s : Dev nD) {off : Fin 2 → ℕ} (hoff : off = ![512 * s.val, 0]) (inb : ∀ a, off a + S512x2048.size a ≤ S4096x2048.size a) :
    (wA.slice (Rect.unit (s := S4096x2048) off S512x2048.size inb) (fun _ => rfl)).view.read (Elt F) (m ((c : Thread nD τ).loc main_arg1))
      = fun j => wblk m c s (ix3 (0 : Fin 1) (j 0) (j 1)) := by
  subst hoff
  funext j
  refine congrArg (m ((c : Thread nD τ).loc main_arg1)) ?_
  funext i
  apply Fin.ext
  match i with
  | ⟨0, _⟩ => show 512 * s.val + 1 * (j 0).val = 512 * s.val + (j 0).val; omega
  | ⟨1, _⟩ => show 0 + 1 * (j 1).val = (j 1).val; omega

/-- The rows the program's transfers name. -/
theorem off1_pr (c : Dev nD) (r : Fin 7) : k0_off1 c (BitVec.ofNat 32 (1 + r.val)) = ![512 * (pr c r.val).val, 0] := k0_off1_eq c r
theorem off4_pr (c : Dev nD) (r : Fin 7) : k0_off4 c (BitVec.ofNat 32 (1 + r.val)) = ![512 * (pr c (6 - r.val)).val, 0] := by
  rw [k0_off4_eq, pr_val]
  congr 2
  have hc : c.val < 8 := c.isLt
  have hr : r.val < 7 := r.isLt
  omega

/-- A load of slot `k` after block `s` of `x` has landed there. -/
theorem load_x (c s : Dev nD) (k : ℕ) (hk : k < 8) {off : Fin 2 → ℕ} (hoff : off = ![512 * s.val, 0]) (inb : ∀ a, off a + S512x512.size a ≤ S4096x512.size a)
    (inb' : ∀ a, ![k, 0, 0] a + S1x512x512.size a ≤ S8x512x512.size a) (f : xV.view.ty.Contents (Elt F)) (L : List (View.Piece (Elt F) S512x512 .f32)) :
    xV.view.readAt (Elt F) (Rect.unit (s := S8x512x512) ![k, 0, 0] S1x512x512.size inb').toLoadRect
        ((xSl k hk).view.writes (Elt F) f (⟨Rect.whole S512x512, ReadAs.same.apply ((xA.slice (Rect.unit (s := S4096x512) off S512x512.size inb) (fun _ => rfl)).view.read (Elt F) (m ((c : Thread nD τ).loc main_arg0)))⟩ :: L))
      = xblk m c s := by
  rw [ReadAs.apply_same, read_x m c s hoff]
  exact load_landed (n := 8) (a := 512) (b := 512) xV rfl rfl hk inb' (inb8 k hk) squeezes_S1x512x512_S512x512 f _ L
/-- A load of slot `k` after block `s` of `w` has landed there. -/
theorem load_w (c s : Dev nD) (k : ℕ) (hk : k < 4) {off : Fin 2 → ℕ} (hoff : off = ![512 * s.val, 0]) (inb : ∀ a, off a + S512x2048.size a ≤ S4096x2048.size a)
    (inb' : ∀ a, ![k, 0, 0] a + S1x512x2048.size a ≤ S4x512x2048.size a) (f : wV.view.ty.Contents (Elt F)) (L : List (View.Piece (Elt F) S512x2048 .f32)) :
    wV.view.readAt (Elt F) (Rect.unit (s := S4x512x2048) ![k, 0, 0] S1x512x2048.size inb').toLoadRect
        ((wSl k hk).view.writes (Elt F) f (⟨Rect.whole S512x2048, ReadAs.same.apply ((wA.slice (Rect.unit (s := S4096x2048) off S512x2048.size inb) (fun _ => rfl)).view.read (Elt F) (m ((c : Thread nD τ).loc main_arg1)))⟩ :: L))
      = wblk m c s := by
  rw [ReadAs.apply_same, read_w m c s hoff]
  exact load_landed (n := 4) (a := 512) (b := 2048) wV rfl rfl hk inb' (inb4 k hk) squeezes_S1x512x2048_S512x2048 f _ L
/-- A load of the receive slot of `s` after `s`'s transfer. -/
theorem load_recv (c s : Dev nD) {off : Fin 3 → ℕ} (hoff : off = k0_off6 s) (inb : ∀ a, off a + S1x512x512.size a ≤ S8x512x512.size a)
    (f : rV.view.ty.Contents (Elt F)) :
    rV.view.readAt (Elt F) (Rect.unit (s := S8x512x512) off S1x512x512.size inb).toLoadRect ((rSl s).view.write (Elt F) f (XM m s c) Finset.univ)
      = XT m s c :=
  (load_written (n := 8) (a := 512) (b := 512) rV (hoff.trans (k0_off6_eq s)) (k0_off6_eq s) s.isLt inb (k0_off6_inb s) squeezes_S1x512x512_S512x512 f (XM m s c)).trans
    (one_block (e := .fp8e4m3) (XT m s c))

/-! ## A send slot filled -/

/-- Two contents that read alike are the same where the view's elements are held. -/
theorem pts_of_read {sp : Space} {s : Shape} {e : EltTy} (c : Dev nD) (M : Memref sig .tc sp s e) (q : PosShare TreeShare)
    (f g : Buf (Elt F) (M.view.loc (c : Thread nD τ))) (h : M.view.read (Elt F) f = M.view.read (Elt F) g) :
    (M.view.loc (c : Thread nD τ) ↦[M.view.set]{q} f : sProp 𝕄) = (M.view.loc (c : Thread nD τ) ↦[M.view.set]{q} g) := by
  refine pointsTo_congr fun i hi => ?_
  obtain ⟨x, -, rfl⟩ := Finset.mem_map.mp hi
  have hx := congrFun h x
  rw [View.read_apply, View.read_apply] at hx
  exact (cast_inj _).mp hx

/-- Send slot `k` after the block for `pr c k` is stored there. -/
theorem send_filled (c : Dev nD) (k : ℕ) (hk : k < 7) (inb : ∀ a, ![k, 0, 0] a + S1x512x512.size a ≤ S7x512x512.size a)
    (f : Buf (Elt F) ((sSl k hk).view.loc (c : Thread nD τ))) (v : Vec F S1x512x512 .f32) (hv : v = xblk m c (pr c k)) :
    ((sSl k hk).view.loc (c : Thread nD τ) ↦[(sSl k hk).view.set]{fullShare}
        View.write (Elt F) (sV.access (Rect.unit (s := S7x512x512) ![k, 0, 0] S1x512x512.size inb)) f (k0_pay2 (k0_pay1 v)) Finset.univ : sProp 𝕄)
      = sendPts m c k hk := by
  subst hv
  exact pts_of_read c (sSl k hk) fullShare _ _
    ((read_stored (n := 7) (a := 512) (b := 512) sV rfl rfl hk inb (inb7 k hk) squeezes_S1x512x512_S512x512 f _).trans (read_send m c k hk).symm)

/-- The same, as a step on what is held. -/
theorem send_fill (c : Dev nD) (k : ℕ) (hk : k < 7) (f g : Buf (Elt F) (sV.view.loc (c : Thread nD τ)))
    (h : ∃ inb v, v = xblk m c (pr c k) ∧ g = View.write (Elt F) (sV.access (Rect.unit (s := S7x512x512) ![k, 0, 0] S1x512x512.size inb)) f (k0_pay2 (k0_pay1 v)) Finset.univ) :
    ((sSl k hk).view.loc (c : Thread nD τ) ↦[(sSl k hk).view.set]{fullShare} g : sProp 𝕄)
      ⊢ ((sSl k hk).view.loc (c : Thread nD τ) ↦[(sSl k hk).view.set]{fullShare} sendC m c) := by
  obtain ⟨inb, v, hv, rfl⟩ := h
  exact Entails.of_eq (send_filled m c k hk inb f v hv)

/-! ## What is held -/

variable (K : Dev nD × Fin 15 → ℕ)

/-- The numbers a device's cells are listed under: its barrier, its send cells, its receive cells by place of the sender. -/
abbrev iS (k : ℕ) (h : k < 7 := by decide) : Fin 15 := ⟨1 + k, by omega⟩
abbrev iR (k : ℕ) (h : k < 7 := by decide) : Fin 15 := ⟨8 + k, by omega⟩

/-- What the barrier wait hands `c`: slot `c` of every peer's receive buffer, and that its cell is at round 0. -/
def barGot (c : Dev nD) : sProp 𝕄 :=
  iprop(barPay c 0 ∗ barPay c 1 ∗ barPay c 2 ∗ barPay c 3 ∗ barPay c 4 ∗ barPay c 5 ∗ barPay c 6)
theorem barGot_intro (c : Dev nD) : ((BI.sep (iprop((∃ f, (rSl c).view.loc (pr c 0 : Thread nD τ) ↦[(rSl c).view.set]{fullShare} f) ∗ reached ER (recvCell (pr c 0) c) 0)) (BI.sep (iprop((∃ f, (rSl c).view.loc (pr c 1 : Thread nD τ) ↦[(rSl c).view.set]{fullShare} f) ∗ reached ER (recvCell (pr c 1) c) 0)) (BI.sep (iprop((∃ f, (rSl c).view.loc (pr c 2 : Thread nD τ) ↦[(rSl c).view.set]{fullShare} f) ∗ reached ER (recvCell (pr c 2) c) 0)) (BI.sep (iprop((∃ f, (rSl c).view.loc (pr c 3 : Thread nD τ) ↦[(rSl c).view.set]{fullShare} f) ∗ reached ER (recvCell (pr c 3) c) 0)) (BI.sep (iprop((∃ f, (rSl c).view.loc (pr c 4 : Thread nD τ) ↦[(rSl c).view.set]{fullShare} f) ∗ reached ER (recvCell (pr c 4) c) 0)) (BI.sep (iprop((∃ f, (rSl c).view.loc (pr c 5 : Thread nD τ) ↦[(rSl c).view.set]{fullShare} f) ∗ reached ER (recvCell (pr c 5) c) 0)) (iprop((∃ f, (rSl c).view.loc (pr c 6 : Thread nD τ) ↦[(rSl c).view.set]{fullShare} f) ∗ reached ER (recvCell (pr c 6) c) 0))))))))) ⊢ (barGot c : sProp 𝕄) := Entails.rfl
/-- The tokens and the destination of transfer `k`, kept together until the send slot is filled. -/
def sendPack (c : Dev nD) (k : ℕ) (h : k < 7) : sProp 𝕄 := dutyTok ER (sendCell c k h) 0 (0 : Fin 7)

theorem sendPack_eq (c : Dev nD) (k : ℕ) (h : k < 7) : (sendPack (F := F) c k h : sProp 𝕄) = dutyTok ER (sendCell c k h) 0 (0 : Fin 7) := rfl

/-- The facts about the exchange between `c` and `pr c k`: the invariants of the four cells, and that the cells `c` pays
    or hands over are at round 0. -/
def peerInv (c : Dev nD) (k : ℕ) (h : k < 7) : sProp 𝕄 :=
  iprop(cellInv ER (exRd m) (K (pr c k, 0)) (barCell (pr c k)) ∗ cellInv ER (exRd m) (K (c, iS k h)) (sendCell c k h)
    ∗ cellInv ER (exRd m) (K (pr c k, iR (6 - k) (by omega))) (recvCell (pr c k) c) ∗ cellInv ER (exRd m) (K (c, iR k h)) (recvCell c (pr c k))
    ∗ reached ER (barCell (pr c k)) 0 ∗ reached ER (sendCell c k h) 0 ∗ reached ER (recvCell c (pr c k)) 0)
/-- What `c` holds for that exchange: its positions, the tokens of the duties it pays, its receive cell's credit, the
    send slot and the receive slot. -/
def peerHeld (c : Dev nD) (k : ℕ) (h : k < 7) : sProp 𝕄 :=
  iprop(atPos ER (sendCell c k h) 0 ∅ 0 ∗ atPos ER (recvCell c (pr c k)) 0 ∅ 0
    ∗ dutyTok ER (barCell (pr c k)) 0 (⟨6 - k, by omega⟩ : Fin 7) ∗ dutyTok ER (recvCell (pr c k) c) 0 (0 : Fin 7) ∗ sendPack c k h
    ∗ cred (tallyAt (recvCell c (pr c k)) () N)
    ∗ (∃ f, (sSl k h).view.loc (c : Thread nD τ) ↦[(sSl k h).view.set]{fullShare} f) ∗ (∃ f, slotPts c (pr c k) f))

/-! ## The barrier's payloads, duty by duty -/

theorem payload_bar_0 (c : Dev nD) :
    (exRd (F := F) m).payload (barCell c) 0 (0 : Fin 7) = iprop((∃ f, (rSl c).view.loc (pr c 0 : Thread nD τ) ↦[(rSl c).view.set]{fullShare} f) ∗ reached ER (recvCell (pr c 0) c) 0) := payload_bar m c 0
theorem payload_bar_1 (c : Dev nD) :
    (exRd (F := F) m).payload (barCell c) 0 (1 : Fin 7) = iprop((∃ f, (rSl c).view.loc (pr c 1 : Thread nD τ) ↦[(rSl c).view.set]{fullShare} f) ∗ reached ER (recvCell (pr c 1) c) 0) := payload_bar m c 1
theorem payload_bar_2 (c : Dev nD) :
    (exRd (F := F) m).payload (barCell c) 0 (2 : Fin 7) = iprop((∃ f, (rSl c).view.loc (pr c 2 : Thread nD τ) ↦[(rSl c).view.set]{fullShare} f) ∗ reached ER (recvCell (pr c 2) c) 0) := payload_bar m c 2
theorem payload_bar_3 (c : Dev nD) :
    (exRd (F := F) m).payload (barCell c) 0 (3 : Fin 7) = iprop((∃ f, (rSl c).view.loc (pr c 3 : Thread nD τ) ↦[(rSl c).view.set]{fullShare} f) ∗ reached ER (recvCell (pr c 3) c) 0) := payload_bar m c 3
theorem payload_bar_4 (c : Dev nD) :
    (exRd (F := F) m).payload (barCell c) 0 (4 : Fin 7) = iprop((∃ f, (rSl c).view.loc (pr c 4 : Thread nD τ) ↦[(rSl c).view.set]{fullShare} f) ∗ reached ER (recvCell (pr c 4) c) 0) := payload_bar m c 4
theorem payload_bar_5 (c : Dev nD) :
    (exRd (F := F) m).payload (barCell c) 0 (5 : Fin 7) = iprop((∃ f, (rSl c).view.loc (pr c 5 : Thread nD τ) ↦[(rSl c).view.set]{fullShare} f) ∗ reached ER (recvCell (pr c 5) c) 0) := payload_bar m c 5
theorem payload_bar_6 (c : Dev nD) :
    (exRd (F := F) m).payload (barCell c) 0 (6 : Fin 7) = iprop((∃ f, (rSl c).view.loc (pr c 6 : Thread nD τ) ↦[(rSl c).view.set]{fullShare} f) ∗ reached ER (recvCell (pr c 6) c) 0) := payload_bar m c 6

/-- What `c` pays `pr c k` with its signal. -/
theorem payload_pay (c : Dev nD) (k : ℕ) (hk : k < 7) (h : 6 - k < 7) :
    (exRd (F := F) m).payload (barCell (pr c k)) 0 (⟨6 - k, h⟩ : Fin 7) = iprop((∃ f, (rSl (pr c k)).view.loc (c : Thread nD τ) ↦[(rSl (pr c k)).view.set]{fullShare} f) ∗ reached ER (recvCell c (pr c k)) 0) := by
  rw [payload_bar]
  unfold barPay
  rw [show pr (pr c k) (6 - k) = c from pr_back c k _ (by omega)]
theorem payload_pay_0 (c : Dev nD) (h : 6 - 0 < 7) :
    (exRd (F := F) m).payload (barCell (pr c 0)) 0 (⟨6 - 0, h⟩ : Fin 7) = iprop((∃ f, (rSl (pr c 0)).view.loc (c : Thread nD τ) ↦[(rSl (pr c 0)).view.set]{fullShare} f) ∗ reached ER (recvCell c (pr c 0)) 0) := payload_pay m c 0 (by decide) h
theorem payload_pay_1 (c : Dev nD) (h : 6 - 1 < 7) :
    (exRd (F := F) m).payload (barCell (pr c 1)) 0 (⟨6 - 1, h⟩ : Fin 7) = iprop((∃ f, (rSl (pr c 1)).view.loc (c : Thread nD τ) ↦[(rSl (pr c 1)).view.set]{fullShare} f) ∗ reached ER (recvCell c (pr c 1)) 0) := payload_pay m c 1 (by decide) h
theorem payload_pay_2 (c : Dev nD) (h : 6 - 2 < 7) :
    (exRd (F := F) m).payload (barCell (pr c 2)) 0 (⟨6 - 2, h⟩ : Fin 7) = iprop((∃ f, (rSl (pr c 2)).view.loc (c : Thread nD τ) ↦[(rSl (pr c 2)).view.set]{fullShare} f) ∗ reached ER (recvCell c (pr c 2)) 0) := payload_pay m c 2 (by decide) h
theorem payload_pay_3 (c : Dev nD) (h : 6 - 3 < 7) :
    (exRd (F := F) m).payload (barCell (pr c 3)) 0 (⟨6 - 3, h⟩ : Fin 7) = iprop((∃ f, (rSl (pr c 3)).view.loc (c : Thread nD τ) ↦[(rSl (pr c 3)).view.set]{fullShare} f) ∗ reached ER (recvCell c (pr c 3)) 0) := payload_pay m c 3 (by decide) h
theorem payload_pay_4 (c : Dev nD) (h : 6 - 4 < 7) :
    (exRd (F := F) m).payload (barCell (pr c 4)) 0 (⟨6 - 4, h⟩ : Fin 7) = iprop((∃ f, (rSl (pr c 4)).view.loc (c : Thread nD τ) ↦[(rSl (pr c 4)).view.set]{fullShare} f) ∗ reached ER (recvCell c (pr c 4)) 0) := payload_pay m c 4 (by decide) h
theorem payload_pay_5 (c : Dev nD) (h : 6 - 5 < 7) :
    (exRd (F := F) m).payload (barCell (pr c 5)) 0 (⟨6 - 5, h⟩ : Fin 7) = iprop((∃ f, (rSl (pr c 5)).view.loc (c : Thread nD τ) ↦[(rSl (pr c 5)).view.set]{fullShare} f) ∗ reached ER (recvCell c (pr c 5)) 0) := payload_pay m c 5 (by decide) h
theorem payload_pay_6 (c : Dev nD) (h : 6 - 6 < 7) :
    (exRd (F := F) m).payload (barCell (pr c 6)) 0 (⟨6 - 6, h⟩ : Fin 7) = iprop((∃ f, (rSl (pr c 6)).view.loc (c : Thread nD τ) ↦[(rSl (pr c 6)).view.set]{fullShare} f) ∗ reached ER (recvCell c (pr c 6)) 0) := payload_pay m c 6 (by decide) h

/-! ## The transfers' payloads, transfer by transfer -/

theorem payload_out_0 (c : Dev nD) :
    (exRd (F := F) m).payload (recvCell (pr c 0) c) 0 (0 : Fin 7)
      = iprop(∃ fd : Buf (Elt F) ((rSl c).view.loc (pr c 0 : Thread nD τ)),
          (rSl c).view.loc (pr c 0 : Thread nD τ) ↦[(rSl c).view.set]{fullShare} (rSl c).view.write (Elt F) fd ((sSl 0).view.read (Elt F) (sendC m c)) Finset.univ) := payload_recv_out m c 0 (by decide) 0
theorem payload_out_1 (c : Dev nD) :
    (exRd (F := F) m).payload (recvCell (pr c 1) c) 0 (0 : Fin 7)
      = iprop(∃ fd : Buf (Elt F) ((rSl c).view.loc (pr c 1 : Thread nD τ)),
          (rSl c).view.loc (pr c 1 : Thread nD τ) ↦[(rSl c).view.set]{fullShare} (rSl c).view.write (Elt F) fd ((sSl 1).view.read (Elt F) (sendC m c)) Finset.univ) := payload_recv_out m c 1 (by decide) 0
theorem payload_out_2 (c : Dev nD) :
    (exRd (F := F) m).payload (recvCell (pr c 2) c) 0 (0 : Fin 7)
      = iprop(∃ fd : Buf (Elt F) ((rSl c).view.loc (pr c 2 : Thread nD τ)),
          (rSl c).view.loc (pr c 2 : Thread nD τ) ↦[(rSl c).view.set]{fullShare} (rSl c).view.write (Elt F) fd ((sSl 2).view.read (Elt F) (sendC m c)) Finset.univ) := payload_recv_out m c 2 (by decide) 0
theorem payload_out_3 (c : Dev nD) :
    (exRd (F := F) m).payload (recvCell (pr c 3) c) 0 (0 : Fin 7)
      = iprop(∃ fd : Buf (Elt F) ((rSl c).view.loc (pr c 3 : Thread nD τ)),
          (rSl c).view.loc (pr c 3 : Thread nD τ) ↦[(rSl c).view.set]{fullShare} (rSl c).view.write (Elt F) fd ((sSl 3).view.read (Elt F) (sendC m c)) Finset.univ) := payload_recv_out m c 3 (by decide) 0
theorem payload_out_4 (c : Dev nD) :
    (exRd (F := F) m).payload (recvCell (pr c 4) c) 0 (0 : Fin 7)
      = iprop(∃ fd : Buf (Elt F) ((rSl c).view.loc (pr c 4 : Thread nD τ)),
          (rSl c).view.loc (pr c 4 : Thread nD τ) ↦[(rSl c).view.set]{fullShare} (rSl c).view.write (Elt F) fd ((sSl 4).view.read (Elt F) (sendC m c)) Finset.univ) := payload_recv_out m c 4 (by decide) 0
theorem payload_out_5 (c : Dev nD) :
    (exRd (F := F) m).payload (recvCell (pr c 5) c) 0 (0 : Fin 7)
      = iprop(∃ fd : Buf (Elt F) ((rSl c).view.loc (pr c 5 : Thread nD τ)),
          (rSl c).view.loc (pr c 5 : Thread nD τ) ↦[(rSl c).view.set]{fullShare} (rSl c).view.write (Elt F) fd ((sSl 5).view.read (Elt F) (sendC m c)) Finset.univ) := payload_recv_out m c 5 (by decide) 0
theorem payload_out_6 (c : Dev nD) :
    (exRd (F := F) m).payload (recvCell (pr c 6) c) 0 (0 : Fin 7)
      = iprop(∃ fd : Buf (Elt F) ((rSl c).view.loc (pr c 6 : Thread nD τ)),
          (rSl c).view.loc (pr c 6 : Thread nD τ) ↦[(rSl c).view.set]{fullShare} (rSl c).view.write (Elt F) fd ((sSl 6).view.read (Elt F) (sendC m c)) Finset.univ) := payload_recv_out m c 6 (by decide) 0

/-! ## The receive slots and semaphores the waits name -/

@[sl_canon] theorem slot_canon_1 (c : Dev nD) (h : ∀ a, k0_off9 c 1#32 a + S1x512x512.size a ≤ S8x512x512.size a) :
    (rV.slice (Rect.unit (s := S8x512x512) (k0_off9 c 1#32) S1x512x512.size h) (fun _ => rfl)).squeeze S512x512 squeezes_S1x512x512_S512x512 = rSl (pr c 6) := slot_canon c 0 h
@[sl_canon] theorem sem_canon_1 (c : Dev nD) (h : ∀ a, k0_off8 c 1#32 a + S1.size a ≤ S8.size a) :
    ((cc0_scratch8.slice (Rect.unit (s := S8) (k0_off8 c 1#32) S1.size h)).squeeze S_ squeezes_S1_S_).sem = rS (pr c 6) := sem_canon c 0 h
theorem rect_canon_1 (c : Dev nD) : k0_off10 c 1#32 = k0_off6 (pr c 6) := off10_pr c 0

@[sl_canon] theorem slot_canon_2 (c : Dev nD) (h : ∀ a, k0_off9 c 2#32 a + S1x512x512.size a ≤ S8x512x512.size a) :
    (rV.slice (Rect.unit (s := S8x512x512) (k0_off9 c 2#32) S1x512x512.size h) (fun _ => rfl)).squeeze S512x512 squeezes_S1x512x512_S512x512 = rSl (pr c 5) := slot_canon c 1 h
@[sl_canon] theorem sem_canon_2 (c : Dev nD) (h : ∀ a, k0_off8 c 2#32 a + S1.size a ≤ S8.size a) :
    ((cc0_scratch8.slice (Rect.unit (s := S8) (k0_off8 c 2#32) S1.size h)).squeeze S_ squeezes_S1_S_).sem = rS (pr c 5) := sem_canon c 1 h
theorem rect_canon_2 (c : Dev nD) : k0_off10 c 2#32 = k0_off6 (pr c 5) := off10_pr c 1

@[sl_canon] theorem slot_canon_3 (c : Dev nD) (h : ∀ a, k0_off9 c 3#32 a + S1x512x512.size a ≤ S8x512x512.size a) :
    (rV.slice (Rect.unit (s := S8x512x512) (k0_off9 c 3#32) S1x512x512.size h) (fun _ => rfl)).squeeze S512x512 squeezes_S1x512x512_S512x512 = rSl (pr c 4) := slot_canon c 2 h
@[sl_canon] theorem sem_canon_3 (c : Dev nD) (h : ∀ a, k0_off8 c 3#32 a + S1.size a ≤ S8.size a) :
    ((cc0_scratch8.slice (Rect.unit (s := S8) (k0_off8 c 3#32) S1.size h)).squeeze S_ squeezes_S1_S_).sem = rS (pr c 4) := sem_canon c 2 h
theorem rect_canon_3 (c : Dev nD) : k0_off10 c 3#32 = k0_off6 (pr c 4) := off10_pr c 2

@[sl_canon] theorem slot_canon_4 (c : Dev nD) (h : ∀ a, k0_off9 c 4#32 a + S1x512x512.size a ≤ S8x512x512.size a) :
    (rV.slice (Rect.unit (s := S8x512x512) (k0_off9 c 4#32) S1x512x512.size h) (fun _ => rfl)).squeeze S512x512 squeezes_S1x512x512_S512x512 = rSl (pr c 3) := slot_canon c 3 h
@[sl_canon] theorem sem_canon_4 (c : Dev nD) (h : ∀ a, k0_off8 c 4#32 a + S1.size a ≤ S8.size a) :
    ((cc0_scratch8.slice (Rect.unit (s := S8) (k0_off8 c 4#32) S1.size h)).squeeze S_ squeezes_S1_S_).sem = rS (pr c 3) := sem_canon c 3 h
theorem rect_canon_4 (c : Dev nD) : k0_off10 c 4#32 = k0_off6 (pr c 3) := off10_pr c 3

@[sl_canon] theorem slot_canon_5 (c : Dev nD) (h : ∀ a, k0_off9 c 5#32 a + S1x512x512.size a ≤ S8x512x512.size a) :
    (rV.slice (Rect.unit (s := S8x512x512) (k0_off9 c 5#32) S1x512x512.size h) (fun _ => rfl)).squeeze S512x512 squeezes_S1x512x512_S512x512 = rSl (pr c 2) := slot_canon c 4 h
@[sl_canon] theorem sem_canon_5 (c : Dev nD) (h : ∀ a, k0_off8 c 5#32 a + S1.size a ≤ S8.size a) :
    ((cc0_scratch8.slice (Rect.unit (s := S8) (k0_off8 c 5#32) S1.size h)).squeeze S_ squeezes_S1_S_).sem = rS (pr c 2) := sem_canon c 4 h
theorem rect_canon_5 (c : Dev nD) : k0_off10 c 5#32 = k0_off6 (pr c 2) := off10_pr c 4

@[sl_canon] theorem slot_canon_6 (c : Dev nD) (h : ∀ a, k0_off9 c 6#32 a + S1x512x512.size a ≤ S8x512x512.size a) :
    (rV.slice (Rect.unit (s := S8x512x512) (k0_off9 c 6#32) S1x512x512.size h) (fun _ => rfl)).squeeze S512x512 squeezes_S1x512x512_S512x512 = rSl (pr c 1) := slot_canon c 5 h
@[sl_canon] theorem sem_canon_6 (c : Dev nD) (h : ∀ a, k0_off8 c 6#32 a + S1.size a ≤ S8.size a) :
    ((cc0_scratch8.slice (Rect.unit (s := S8) (k0_off8 c 6#32) S1.size h)).squeeze S_ squeezes_S1_S_).sem = rS (pr c 1) := sem_canon c 5 h
theorem rect_canon_6 (c : Dev nD) : k0_off10 c 6#32 = k0_off6 (pr c 1) := off10_pr c 5

@[sl_canon] theorem slot_canon_7 (c : Dev nD) (h : ∀ a, k0_off9 c 7#32 a + S1x512x512.size a ≤ S8x512x512.size a) :
    (rV.slice (Rect.unit (s := S8x512x512) (k0_off9 c 7#32) S1x512x512.size h) (fun _ => rfl)).squeeze S512x512 squeezes_S1x512x512_S512x512 = rSl (pr c 0) := slot_canon c 6 h
@[sl_canon] theorem sem_canon_7 (c : Dev nD) (h : ∀ a, k0_off8 c 7#32 a + S1.size a ≤ S8.size a) :
    ((cc0_scratch8.slice (Rect.unit (s := S8) (k0_off8 c 7#32) S1.size h)).squeeze S_ squeezes_S1_S_).sem = rS (pr c 0) := sem_canon c 6 h
theorem rect_canon_7 (c : Dev nD) : k0_off10 c 7#32 = k0_off6 (pr c 0) := off10_pr c 6

/-- A load at the receive slot of `s` stays in that slot. -/
theorem load_inside (s : Dev nD) {off : Fin 3 → ℕ} (hoff : off = k0_off6 s) (inb : ∀ a, off a + S1x512x512.size a ≤ S8x512x512.size a) :
    (rV.access (Rect.unit (s := S8x512x512) off S1x512x512.size inb)).set ⊆ (rSl s).view.set := by
  subst hoff
  exact (Memref.set_view_squeeze _ squeezes_S1x512x512_S512x512).symm.subset

/-! ## The debts written out -/

theorem oweR_lit0 (c : Dev nD) : oweR c 0 = tallyAt (recvCell (pr c 0) c) () N + tallyAt (recvCell (pr c 1) c) () N + tallyAt (recvCell (pr c 2) c) () N + tallyAt (recvCell (pr c 3) c) () N + tallyAt (recvCell (pr c 4) c) () N + tallyAt (recvCell (pr c 5) c) () N + tallyAt (recvCell (pr c 6) c) () N := by
  unfold oweR
  iterate 7 rw [Finset.sum_Ico_succ_top (by decide)]
  rw [Finset.Ico_self, Finset.sum_empty, zero_add]
theorem oweR_lit1 (c : Dev nD) : oweR c 1 = tallyAt (recvCell (pr c 1) c) () N + tallyAt (recvCell (pr c 2) c) () N + tallyAt (recvCell (pr c 3) c) () N + tallyAt (recvCell (pr c 4) c) () N + tallyAt (recvCell (pr c 5) c) () N + tallyAt (recvCell (pr c 6) c) () N := by
  unfold oweR
  iterate 6 rw [Finset.sum_Ico_succ_top (by decide)]
  rw [Finset.Ico_self, Finset.sum_empty, zero_add]
theorem oweR_lit2 (c : Dev nD) : oweR c 2 = tallyAt (recvCell (pr c 2) c) () N + tallyAt (recvCell (pr c 3) c) () N + tallyAt (recvCell (pr c 4) c) () N + tallyAt (recvCell (pr c 5) c) () N + tallyAt (recvCell (pr c 6) c) () N := by
  unfold oweR
  iterate 5 rw [Finset.sum_Ico_succ_top (by decide)]
  rw [Finset.Ico_self, Finset.sum_empty, zero_add]
theorem oweR_lit3 (c : Dev nD) : oweR c 3 = tallyAt (recvCell (pr c 3) c) () N + tallyAt (recvCell (pr c 4) c) () N + tallyAt (recvCell (pr c 5) c) () N + tallyAt (recvCell (pr c 6) c) () N := by
  unfold oweR
  iterate 4 rw [Finset.sum_Ico_succ_top (by decide)]
  rw [Finset.Ico_self, Finset.sum_empty, zero_add]
theorem oweR_lit4 (c : Dev nD) : oweR c 4 = tallyAt (recvCell (pr c 4) c) () N + tallyAt (recvCell (pr c 5) c) () N + tallyAt (recvCell (pr c 6) c) () N := by
  unfold oweR
  iterate 3 rw [Finset.sum_Ico_succ_top (by decide)]
  rw [Finset.Ico_self, Finset.sum_empty, zero_add]
theorem oweR_lit5 (c : Dev nD) : oweR c 5 = tallyAt (recvCell (pr c 5) c) () N + tallyAt (recvCell (pr c 6) c) () N := by
  unfold oweR
  iterate 2 rw [Finset.sum_Ico_succ_top (by decide)]
  rw [Finset.Ico_self, Finset.sum_empty, zero_add]
theorem oweR_lit6 (c : Dev nD) : oweR c 6 = tallyAt (recvCell (pr c 6) c) () N := by
  unfold oweR
  iterate 1 rw [Finset.sum_Ico_succ_top (by decide)]
  rw [Finset.Ico_self, Finset.sum_empty, zero_add]
theorem oweB_lit (c : Dev nD) : oweB c 0 = (tallyAt (recvCell (pr c 0) c) () N + tallyAt (recvCell (pr c 1) c) () N + tallyAt (recvCell (pr c 2) c) () N + tallyAt (recvCell (pr c 3) c) () N + tallyAt (recvCell (pr c 4) c) () N + tallyAt (recvCell (pr c 5) c) () N + tallyAt (recvCell (pr c 6) c) () N)
    + (tallyAt (barCell (pr c 0)) () 1 + tallyAt (barCell (pr c 1)) () 1 + tallyAt (barCell (pr c 2)) () 1 + tallyAt (barCell (pr c 3)) () 1 + tallyAt (barCell (pr c 4)) () 1 + tallyAt (barCell (pr c 5)) () 1 + tallyAt (barCell (pr c 6)) () 1) := by
  unfold oweB
  rw [oweR_lit0]
  congr 1
  iterate 7 rw [Finset.sum_Ico_succ_top (by decide)]
  rw [Finset.Ico_self, Finset.sum_empty, zero_add]

end Cert.KernelIdeal.Proto

end
-- ==== Proof.Out.lean ====
/-
# 01_k — `Out`: what a device computes, and what it holds before and after its run
-/
module

public import proofs.«01_k».proof.Proof.Held

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result -/

/-- The product of the two scales. -/
def sc (c : Dev nD) : F .f32 := k0_pay11 (m ((c : Thread nD τ).loc main_arg2) (ix1 (0 : Fin 1))) (m ((c : Thread nD τ).loc main_arg3) (ix1 (0 : Fin 1)))
/-- The accumulator after the device's own block and the first six to arrive. -/
def accV (c : Dev nD) : FVec F S512x2048 .f32 :=
  k0_pay17
    (k0_pay16
      (k0_pay15
        (k0_pay14
          (k0_pay13 (k0_pay12 (XT m c c) (wblk m c c)) (XT m (pr c 6) c) (wblk m c (pr c 6)))
          (XT m (pr c 5) c) (wblk m c (pr c 5)))
        (XT m (pr c 4) c) (wblk m c (pr c 4)))
      (XT m (pr c 3) c) (wblk m c (pr c 3)) (XT m (pr c 2) c) (wblk m c (pr c 2)))
    (XT m (pr c 1) c) (wblk m c (pr c 1))
/-- The left half of the result's columns, and the right. -/
def outLo (c : Dev nD) : FVec F S1x512x1024 .f32 := k0_pay19 (sc m c) (accV m c) (XT m (pr c 0) c) (wblk m c (pr c 0))
def outHi (c : Dev nD) : FVec F S1x512x1024 .f32 := k0_pay21 (k0_pay20 (sc m c) (accV m c) (XT m (pr c 0) c) (wblk m c (pr c 0)))
/-- The result. -/
def outV (c : Dev nD) : (main_v1 : Ref sig .tc).ty.Contents (Elt F) := fun i : S512x2048.Idx =>
  if h : (i 1).val < 1024 then outLo m c (ix3 (0 : Fin 1) (i 0) (⟨(i 1).val, h⟩ : Fin 1024))
  else outHi m c (ix3 (0 : Fin 1) (i 0) (⟨(i 1).val - 1024, by have h1 : (i 1).val < 2048 := (i 1).isLt; omega⟩ : Fin 1024))

theorem read_lo (c : Dev nD) : oLo.view.read (Elt F) (outV m c) = fun j : S512x1024.Idx => outLo m c (ix3 (0 : Fin 1) (j 0) (j 1)) := by
  funext j
  have h1 : (j 1).val < 1024 := (j 1).isLt
  have h : oLo.view.read (Elt F) (outV m c) j = outV m c (ix2 (j 0) (⟨(j 1).val, by omega⟩ : Fin 2048)) := by
    refine congrArg (outV m c) ?_
    funext i
    apply Fin.ext
    match i with
    | ⟨0, _⟩ => show 0 + 1 * (j 0).val = (j 0).val; omega
    | ⟨1, _⟩ => show 0 + 1 * (j 1).val = (j 1).val; omega
  rw [h]
  exact dif_pos h1
theorem read_hi (c : Dev nD) : oHi.view.read (Elt F) (outV m c) = fun j : S512x1024.Idx => outHi m c (ix3 (0 : Fin 1) (j 0) (j 1)) := by
  funext j
  have h1 : (j 1).val < 1024 := (j 1).isLt
  have h : oHi.view.read (Elt F) (outV m c) j = outV m c (ix2 (j 0) (⟨1024 + (j 1).val, by omega⟩ : Fin 2048)) := by
    refine congrArg (outV m c) ?_
    funext i
    apply Fin.ext
    match i with
    | ⟨0, _⟩ => show 0 + 1 * (j 0).val = (j 0).val; omega
    | ⟨1, _⟩ => show 1024 + 1 * (j 1).val = 1024 + (j 1).val; omega
  rw [h]
  refine (dif_neg (show ¬ (1024 + (j 1).val < 1024) by omega)).trans ?_
  refine congrArg (outHi m c) ?_
  funext i
  apply Fin.ext
  match i with
  | ⟨0, _⟩ => rfl
  | ⟨1, _⟩ => rfl
  | ⟨2, _⟩ => show 1024 + (j 1).val - 1024 = (j 1).val; omega

/-- Half of the result array after its copy. -/
theorem lo_filled (c : Dev nD) (f : Buf (Elt F) (oLo.view.loc (c : Thread nD τ))) (p : S512x1024.Idx → Elt F .f32)
    (hp : p = fun j : S512x1024.Idx => outLo m c (ix3 (0 : Fin 1) (j 0) (j 1))) :
    (oLo.view.loc (c : Thread nD τ) ↦[oLo.view.set]{fullShare} oLo.view.writes (Elt F) f [⟨Rect.whole S512x1024, p⟩] : sProp 𝕄)
      ⊢ (oLo.view.loc (c : Thread nD τ) ↦[oLo.view.set]{fullShare} outV m c) := by
  subst hp
  refine Entails.of_eq (pts_of_read c oLo fullShare _ _ ?_)
  rw [read_lo, ← View.write_univ_eq_writes_whole, View.read_write_univ]
theorem hi_filled (c : Dev nD) (f : Buf (Elt F) (oHi.view.loc (c : Thread nD τ))) (p : S512x1024.Idx → Elt F .f32)
    (hp : p = fun j : S512x1024.Idx => outHi m c (ix3 (0 : Fin 1) (j 0) (j 1))) :
    (oHi.view.loc (c : Thread nD τ) ↦[oHi.view.set]{fullShare} oHi.view.writes (Elt F) f [⟨Rect.whole S512x1024, p⟩] : sProp 𝕄)
      ⊢ (oHi.view.loc (c : Thread nD τ) ↦[oHi.view.set]{fullShare} outV m c) := by
  subst hp
  refine Entails.of_eq (pts_of_read c oHi fullShare _ _ ?_)
  rw [read_hi, ← View.write_univ_eq_writes_whole, View.read_write_univ]

/-- The staging buffer of half 0 or 1 read after its store. -/
theorem read_half (k : ℕ) (hk : k < 2) (inb inb' : ∀ a, ![k, 0, 0] a + S1x512x1024.size a ≤ S2x512x1024.size a)
    (f : yV.view.ty.Contents (Elt F)) (v w : Vec F S1x512x1024 .f32) (hv : v = w) :
    ReadAs.same.apply (((yV.slice (Rect.unit (s := S2x512x1024) ![k, 0, 0] S1x512x1024.size inb) (fun _ => rfl)).squeeze S512x1024 squeezes_S1x512x1024_S512x1024).view.read (Elt F)
        (View.write (Elt F) (yV.access (Rect.unit (s := S2x512x1024) ![k, 0, 0] S1x512x1024.size inb')) f v Finset.univ))
      = fun j : S512x1024.Idx => w (ix3 (0 : Fin 1) (j 0) (j 1)) := by
  subst hv
  rw [ReadAs.apply_same]
  exact read_stored (n := 2) (a := 512) (b := 1024) yV rfl rfl hk inb' inb squeezes_S1x512x1024_S512x1024 f v

/-- A scale read. -/
theorem read_scale2 (c : Dev nD) (inb : ∀ a, ![0] a + S1.size a ≤ S1.size a) (i : (Rect.unit (s := S1) ![0] S1.size inb).shape.Idx) :
    View.readAt (Elt F) (Memref.whole cc0_stg0_0).view (Rect.unit (s := S1) ![0] S1.size inb).toLoadRect (m ((c : Thread nD τ).loc main_arg2)) i
      = m ((c : Thread nD τ).loc main_arg2) (ix1 (0 : Fin 1)) := by
  refine congrArg (m ((c : Thread nD τ).loc main_arg2)) ?_
  funext a
  match a with
  | ⟨0, _⟩ => exact Subsingleton.elim (α := Fin 1) _ _
theorem read_scale3 (c : Dev nD) (inb : ∀ a, ![0] a + S1.size a ≤ S1.size a) (i : (Rect.unit (s := S1) ![0] S1.size inb).shape.Idx) :
    View.readAt (Elt F) (Memref.whole cc0_stg1_0).view (Rect.unit (s := S1) ![0] S1.size inb).toLoadRect (m ((c : Thread nD τ).loc main_arg3)) i
      = m ((c : Thread nD τ).loc main_arg3) (ix1 (0 : Fin 1)) := by
  refine congrArg (m ((c : Thread nD τ).loc main_arg3)) ?_
  funext a
  match a with
  | ⟨0, _⟩ => exact Subsingleton.elim (α := Fin 1) _ _

/-! ## What a device is left with -/

/-- A cell past its one round gives its counter back at zero. -/
theorem close_cell (κ : ℕ) (g : GSem nD τ sig) :
    iprop(cellInv ER (exRd m) κ g ∗ atPos ER g 1 ∅ 0) ⊢ (|={Set.univ}=> semVal g 0 : sProp 𝕄) :=
  Rounds.cell_close ER (exRd m) (Set.mem_univ κ) (fun h => h) (R := 0 + 1) (duties_later m g)

/-- What is left of the exchange between `c` and `pr c k`: the two cells' counters at zero, and the two slots. -/
def peerDone (c : Dev nD) (k : ℕ) (h : k < 7) : sProp 𝕄 :=
  iprop(semVal (sendCell c k h) 0 ∗ semVal (recvCell c (pr c k)) 0
    ∗ (∃ f, (sSl k h).view.loc (c : Thread nD τ) ↦[(sSl k h).view.set]{fullShare} f) ∗ (∃ f, slotPts c (pr c k) f))

/-- The exchange's two cells close. -/
theorem close_peer (c : Dev nD) (k : ℕ) (h : k < 7) (κs κr : ℕ) (f : Buf (Elt F) ((rSl (pr c k)).view.loc (c : Thread nD τ))) :
    iprop(cellInv ER (exRd m) κs (sendCell c k h) ∗ cellInv ER (exRd m) κr (recvCell c (pr c k))
        ∗ atPos ER (sendCell c k h) 1 ∅ 0 ∗ atPos ER (recvCell c (pr c k)) 1 ∅ 0 ∗ sendPts m c k h
        ∗ ((rSl (pr c k)).view.loc (c : Thread nD τ) ↦[(rSl (pr c k)).view.set]{fullShare} f))
      ⊢ (|={Set.univ}=> peerDone c k h : sProp 𝕄) := by
  unfold peerDone
  iintro ⟨#HIs, #HIr, HatS, HatR, Hs, Hr⟩
  imod (close_cell m κs (sendCell c k h)) $$ [HatS] with HzS
  · isplitr; · iexact HIs
    iexact HatS
  imod (close_cell m κr (recvCell c (pr c k))) $$ [HatR] with HzR
  · isplitr; · iexact HIr
    iexact HatR
  imodintro
  isplitl [HzS]; · iexact HzS
  isplitl [HzR]; · iexact HzR
  isplitl [Hs]; · (iexists _; iexact Hs)
  iexists f
  iexact Hr

/-- What the run gives back as it found it, but for the contents of the work slots: the parts of the two arguments it
    reads, its slots, the scales and the counters of its own copies. -/
def kept (c : Dev nD) : sProp 𝕄 :=
  iprop((xA.view.loc (c : Thread nD τ) ↦{Transfers.shareTokN fullShare 2} m ((c : Thread nD τ).loc main_arg0))
    ∗ (xA.view.loc (c : Thread nD τ) ↦{Transfers.shareTokN fullShare 3} m ((c : Thread nD τ).loc main_arg0))
    ∗ (xA.view.loc (c : Thread nD τ) ↦{Transfers.shareTokN fullShare 4} m ((c : Thread nD τ).loc main_arg0))
    ∗ (xA.view.loc (c : Thread nD τ) ↦{Transfers.shareTokN fullShare 5} m ((c : Thread nD τ).loc main_arg0))
    ∗ (xA.view.loc (c : Thread nD τ) ↦{Transfers.shareTokN fullShare 6} m ((c : Thread nD τ).loc main_arg0))
    ∗ (xA.view.loc (c : Thread nD τ) ↦{Transfers.shareTokN fullShare 7} m ((c : Thread nD τ).loc main_arg0))
    ∗ (xA.view.loc (c : Thread nD τ) ↦{Transfers.shareTokN fullShare 8} m ((c : Thread nD τ).loc main_arg0))
    ∗ (xA.view.loc (c : Thread nD τ) ↦{Transfers.shareTokN fullShare 9} m ((c : Thread nD τ).loc main_arg0))
    ∗ (wA.view.loc (c : Thread nD τ) ↦{Transfers.shareTokN fullShare 10} m ((c : Thread nD τ).loc main_arg1))
    ∗ (wA.view.loc (c : Thread nD τ) ↦{Transfers.shareTokN fullShare 11} m ((c : Thread nD τ).loc main_arg1))
    ∗ (wA.view.loc (c : Thread nD τ) ↦{Transfers.shareTokN fullShare 12} m ((c : Thread nD τ).loc main_arg1))
    ∗ (wA.view.loc (c : Thread nD τ) ↦{Transfers.shareTokN fullShare 13} m ((c : Thread nD τ).loc main_arg1))
    ∗ (∃ f, (xSl 0).view.loc (c : Thread nD τ) ↦[(xSl 0).view.set]{fullShare} f)
    ∗ (∃ f, (xSl 1).view.loc (c : Thread nD τ) ↦[(xSl 1).view.set]{fullShare} f)
    ∗ (∃ f, (xSl 2).view.loc (c : Thread nD τ) ↦[(xSl 2).view.set]{fullShare} f)
    ∗ (∃ f, (xSl 3).view.loc (c : Thread nD τ) ↦[(xSl 3).view.set]{fullShare} f)
    ∗ (∃ f, (xSl 4).view.loc (c : Thread nD τ) ↦[(xSl 4).view.set]{fullShare} f)
    ∗ (∃ f, (xSl 5).view.loc (c : Thread nD τ) ↦[(xSl 5).view.set]{fullShare} f)
    ∗ (∃ f, (xSl 6).view.loc (c : Thread nD τ) ↦[(xSl 6).view.set]{fullShare} f)
    ∗ (∃ f, (xSl 7).view.loc (c : Thread nD τ) ↦[(xSl 7).view.set]{fullShare} f)
    ∗ (∃ f, (wSl 0).view.loc (c : Thread nD τ) ↦[(wSl 0).view.set]{fullShare} f)
    ∗ (∃ f, (wSl 1).view.loc (c : Thread nD τ) ↦[(wSl 1).view.set]{fullShare} f)
    ∗ (∃ f, (wSl 2).view.loc (c : Thread nD τ) ↦[(wSl 2).view.set]{fullShare} f)
    ∗ (∃ f, (wSl 3).view.loc (c : Thread nD τ) ↦[(wSl 3).view.set]{fullShare} f)
    ∗ (∃ f, slotPts c c f)
    ∗ (∃ f, (ySl 0).view.loc (c : Thread nD τ) ↦[(ySl 0).view.set]{fullShare} f)
    ∗ (∃ f, (ySl 1).view.loc (c : Thread nD τ) ↦[(ySl 1).view.set]{fullShare} f)
    ∗ ((Memref.whole cc0_stg0_0).view.loc (c : Thread nD τ) ↦{fullShare} m ((c : Thread nD τ).loc main_arg2))
    ∗ ((Memref.whole cc0_stg1_0).view.loc (c : Thread nD τ) ↦{fullShare} m ((c : Thread nD τ).loc main_arg3))
    ∗ semVal ((c : Thread nD τ), .dma (xS 0)) 0
    ∗ semVal ((c : Thread nD τ), .dma (xS 1)) 0
    ∗ semVal ((c : Thread nD τ), .dma (xS 2)) 0
    ∗ semVal ((c : Thread nD τ), .dma (xS 3)) 0
    ∗ semVal ((c : Thread nD τ), .dma (xS 4)) 0
    ∗ semVal ((c : Thread nD τ), .dma (xS 5)) 0
    ∗ semVal ((c : Thread nD τ), .dma (xS 6)) 0
    ∗ semVal ((c : Thread nD τ), .dma (xS 7)) 0
    ∗ semVal ((c : Thread nD τ), .dma (wS 0)) 0
    ∗ semVal ((c : Thread nD τ), .dma (wS 1)) 0
    ∗ semVal ((c : Thread nD τ), .dma (wS 2)) 0
    ∗ semVal ((c : Thread nD τ), .dma (wS 3)) 0
    ∗ semVal ((c : Thread nD τ), .dma (yS 0)) 0
    ∗ semVal ((c : Thread nD τ), .dma (yS 1)) 0)

/-- What a device runs from: the invariants and the positions of its cells, what it holds of each exchange, what it keeps,
    and its result array. -/
def runPre (K : Dev nD × Fin 15 → ℕ) (c : Dev nD) (W : Waits sig Unit) : sProp 𝕄 :=
  iprop(cellInv ER (exRd m) (K (c, 0)) (barCell c) ∗ atPos ER (barCell c) 0 ∅ 0 ∗ cred (tallyAt (barCell c) () 7) ∗ levAts L lv
    ∗ peerInv m K c 0 (by decide) ∗ peerHeld c 0 (by decide)
    ∗ peerInv m K c 1 (by decide) ∗ peerHeld c 1 (by decide)
    ∗ peerInv m K c 2 (by decide) ∗ peerHeld c 2 (by decide)
    ∗ peerInv m K c 3 (by decide) ∗ peerHeld c 3 (by decide)
    ∗ peerInv m K c 4 (by decide) ∗ peerHeld c 4 (by decide)
    ∗ peerInv m K c 5 (by decide) ∗ peerHeld c 5 (by decide)
    ∗ peerInv m K c 6 (by decide) ∗ peerHeld c 6 (by decide)
    ∗ kept m c
    ∗ (∃ f, oLo.view.loc (c : Thread nD τ) ↦[oLo.view.set]{fullShare} f) ∗ (∃ f, oHi.view.loc (c : Thread nD τ) ↦[oHi.view.set]{fullShare} f)
    ∗ owes (c : Thread nD τ) (oweB c 0) W)
/-- What it ends with: every counter of its cells at zero, its slots, what it kept, and the result in its array. -/
def runPost (c : Dev nD) : sProp 𝕄 :=
  iprop(semVal (barCell c) 0
    ∗ peerDone c 0 (by decide)
    ∗ peerDone c 1 (by decide)
    ∗ peerDone c 2 (by decide)
    ∗ peerDone c 3 (by decide)
    ∗ peerDone c 4 (by decide)
    ∗ peerDone c 5 (by decide)
    ∗ peerDone c 6 (by decide)
    ∗ kept m c
    ∗ (oLo.view.loc (c : Thread nD τ) ↦[oLo.view.set]{fullShare} outV m c) ∗ (oHi.view.loc (c : Thread nD τ) ↦[oHi.view.set]{fullShare} outV m c)
    ∗ ∃ W' : Waits sig Unit, owes (c : Thread nD τ) 0 W')

end Cert.KernelIdeal.Proto

end
-- ==== Proof.Body.lean ====
/-
# 01_k — `Body`: one device's body, run once
-/
module

public import proofs.«01_k».proof.Proof.Out

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 15 → ℕ)

abbrev 𝒱₀ : Variants := Variants.none

/-- The body on the program's memrefs and semaphores. -/
abbrev bodyAt : Prog (TpuEff nD τ sig (Elt F) Λ₀ .tc) PUnit :=
  cc0_body (F := F) xA (Memref.isWhole_whole _) wA (Memref.isWhole_whole _) (Memref.whole cc0_stg0_0) (Memref.isWhole_whole _) (Memref.whole cc0_stg1_0) (Memref.isWhole_whole _)
    oA (Memref.isWhole_whole _) xV (Memref.isWhole_whole _) wV (Memref.isWhole_whole _) sV (Memref.isWhole_whole _) rV (Memref.isWhole_whole _) yV (Memref.isWhole_whole _)
    cc0_scratch5 cc0_scratch6 cc0_scratch7 cc0_scratch8 cc0_scratch9

attribute [local sl_rounds high] payload_pay_0 payload_pay_1 payload_pay_2 payload_pay_3 payload_pay_4 payload_pay_5 payload_pay_6
  payload_out_0 payload_out_1 payload_out_2 payload_out_3 payload_out_4 payload_out_5 payload_out_6
attribute [local sl_rounds] duties_bar duties_recv duties_send amount_bar amount_recv amount_send expect_bar expect_recv expect_send
  payload_bar_0 payload_bar_1 payload_bar_2 payload_bar_3 payload_bar_4 payload_bar_5 payload_bar_6 payload_recv_in payload_send

set_option maxHeartbeats 8000000 in
/-- One device's run, effect by effect in program order. -/
theorem run (c : Dev nD) (W : Waits sig Unit) (Kt : PUnit → sProp 𝕄) :
    iprop(runPre m K c W ∗ (runPost m c -∗ Kt ⟨⟩)) ⊢ wp frame (wpE (defs₀ (F := F)) 𝒱₀ c none) Set.univ bodyAt Kt := by
  unfold runPre kept peerInv peerHeld slotPts
  iintro ⟨⟨#HIb,
    HatB,
    HcB,
    #Hlev,
    ⟨#HIb0, #HIs0, #HIr0, #HIi0, #Hrb0, #Hrs0, #Hri0⟩, ⟨HatS0, HatR0, Htb0, Htr0, Hts0, HcR0, ⟨%fs0, Hs0⟩, ⟨%fr0, Hr0⟩⟩,
    ⟨#HIb1, #HIs1, #HIr1, #HIi1, #Hrb1, #Hrs1, #Hri1⟩, ⟨HatS1, HatR1, Htb1, Htr1, Hts1, HcR1, ⟨%fs1, Hs1⟩, ⟨%fr1, Hr1⟩⟩,
    ⟨#HIb2, #HIs2, #HIr2, #HIi2, #Hrb2, #Hrs2, #Hri2⟩, ⟨HatS2, HatR2, Htb2, Htr2, Hts2, HcR2, ⟨%fs2, Hs2⟩, ⟨%fr2, Hr2⟩⟩,
    ⟨#HIb3, #HIs3, #HIr3, #HIi3, #Hrb3, #Hrs3, #Hri3⟩, ⟨HatS3, HatR3, Htb3, Htr3, Hts3, HcR3, ⟨%fs3, Hs3⟩, ⟨%fr3, Hr3⟩⟩,
    ⟨#HIb4, #HIs4, #HIr4, #HIi4, #Hrb4, #Hrs4, #Hri4⟩, ⟨HatS4, HatR4, Htb4, Htr4, Hts4, HcR4, ⟨%fs4, Hs4⟩, ⟨%fr4, Hr4⟩⟩,
    ⟨#HIb5, #HIs5, #HIr5, #HIi5, #Hrb5, #Hrs5, #Hri5⟩, ⟨HatS5, HatR5, Htb5, Htr5, Hts5, HcR5, ⟨%fs5, Hs5⟩, ⟨%fr5, Hr5⟩⟩,
    ⟨#HIb6, #HIs6, #HIr6, #HIi6, #Hrb6, #Hrs6, #Hri6⟩, ⟨HatS6, HatR6, Htb6, Htr6, Hts6, HcR6, ⟨%fs6, Hs6⟩, ⟨%fr6, Hr6⟩⟩,
    ⟨Ax0,
      Ax1,
      Ax2,
      Ax3,
      Ax4,
      Ax5,
      Ax6,
      Ax7,
      Aw0,
      Aw1,
      Aw2,
      Aw3,
      ⟨%fx0, Hx0⟩,
      ⟨%fx1, Hx1⟩,
      ⟨%fx2, Hx2⟩,
      ⟨%fx3, Hx3⟩,
      ⟨%fx4, Hx4⟩,
      ⟨%fx5, Hx5⟩,
      ⟨%fx6, Hx6⟩,
      ⟨%fx7, Hx7⟩,
      ⟨%fw0, Hw0⟩,
      ⟨%fw1, Hw1⟩,
      ⟨%fw2, Hw2⟩,
      ⟨%fw3, Hw3⟩,
      ⟨%fo, Ho⟩,
      ⟨%fy0, Hy0⟩,
      ⟨%fy1, Hy1⟩,
      Hg0,
      Hg1,
      Sx0,
      Sx1,
      Sx2,
      Sx3,
      Sx4,
      Sx5,
      Sx6,
      Sx7,
      Sw0,
      Sw1,
      Sw2,
      Sw3,
      Sy0,
      Sy1⟩,
    ⟨%fl, Hl⟩,
    ⟨%fh, Hh⟩,
    HO⟩, HK⟩
  have hd1 := dev1_eq c
  have hd2 := dev2_eq c
  have hd3 := dev3_eq c
  have hd4 := dev4_eq c
  have hd5 := dev5_eq c
  have hd6 := dev6_eq c
  have hd7 := dev7_eq c
  have hd8 := dev8_eq c
  have hd9 := dev9_eq c
  have hd10 := dev10_eq c
  have hd11 := dev11_eq c
  have hd12 := dev12_eq c
  have hd13 := dev13_eq c
  have hd14 := dev14_eq c
  have hw0 : (levAts L lv : sProp 𝕄) ⊢ MayWait (c : Thread nD τ) (.dma (xS 0)) () (tallyAt (recvCell (pr c 0) c) () N + tallyAt (recvCell (pr c 1) c) () N + tallyAt (recvCell (pr c 2) c) () N + tallyAt (recvCell (pr c 3) c) () N + tallyAt (recvCell (pr c 4) c) () N + tallyAt (recvCell (pr c 5) c) () N + tallyAt (recvCell (pr c 6) c) () N) := oweR_lit0 c ▸ mayWait_local c (xS 0) (recvIx_x ⟨0, by decide⟩) 0
  have hw1 : (levAts L lv : sProp 𝕄) ⊢ MayWait (c : Thread nD τ) (.dma (xS 1)) () (tallyAt (recvCell (pr c 1) c) () N + tallyAt (recvCell (pr c 2) c) () N + tallyAt (recvCell (pr c 3) c) () N + tallyAt (recvCell (pr c 4) c) () N + tallyAt (recvCell (pr c 5) c) () N + tallyAt (recvCell (pr c 6) c) () N) := oweR_lit1 c ▸ mayWait_local c (xS 1) (recvIx_x ⟨1, by decide⟩) 1
  have hw2 : (levAts L lv : sProp 𝕄) ⊢ MayWait (c : Thread nD τ) (.dma (xS 2)) () (tallyAt (recvCell (pr c 2) c) () N + tallyAt (recvCell (pr c 3) c) () N + tallyAt (recvCell (pr c 4) c) () N + tallyAt (recvCell (pr c 5) c) () N + tallyAt (recvCell (pr c 6) c) () N) := oweR_lit2 c ▸ mayWait_local c (xS 2) (recvIx_x ⟨2, by decide⟩) 2
  have hw3 : (levAts L lv : sProp 𝕄) ⊢ MayWait (c : Thread nD τ) (.dma (xS 3)) () (tallyAt (recvCell (pr c 3) c) () N + tallyAt (recvCell (pr c 4) c) () N + tallyAt (recvCell (pr c 5) c) () N + tallyAt (recvCell (pr c 6) c) () N) := oweR_lit3 c ▸ mayWait_local c (xS 3) (recvIx_x ⟨3, by decide⟩) 3
  have hw4 : (levAts L lv : sProp 𝕄) ⊢ MayWait (c : Thread nD τ) (.dma (xS 4)) () (tallyAt (recvCell (pr c 4) c) () N + tallyAt (recvCell (pr c 5) c) () N + tallyAt (recvCell (pr c 6) c) () N) := oweR_lit4 c ▸ mayWait_local c (xS 4) (recvIx_x ⟨4, by decide⟩) 4
  have hw5 : (levAts L lv : sProp 𝕄) ⊢ MayWait (c : Thread nD τ) (.dma (xS 5)) () (tallyAt (recvCell (pr c 5) c) () N + tallyAt (recvCell (pr c 6) c) () N) := oweR_lit5 c ▸ mayWait_local c (xS 5) (recvIx_x ⟨5, by decide⟩) 5
  have hw6 : (levAts L lv : sProp 𝕄) ⊢ MayWait (c : Thread nD τ) (.dma (xS 6)) () (tallyAt (recvCell (pr c 6) c) () N) := oweR_lit6 c ▸ mayWait_local c (xS 6) (recvIx_x ⟨6, by decide⟩) 6
  have hwb : (levAts L lv : sProp 𝕄) ⊢ MayWait (c : Thread nD τ) (.reg barS) () (tallyAt (recvCell (pr c 0) c) () N + tallyAt (recvCell (pr c 1) c) () N + tallyAt (recvCell (pr c 2) c) () N + tallyAt (recvCell (pr c 3) c) () N + tallyAt (recvCell (pr c 4) c) () N + tallyAt (recvCell (pr c 5) c) () N + tallyAt (recvCell (pr c 6) c) () N) := oweR_lit0 c ▸ mayWait_bar c
  rw [oweB_lit c]
  have hin1 := load_inside (pr c 6) (rect_canon_1 c) (k0_off10_inb c 0)
  have hin2 := load_inside (pr c 5) (rect_canon_2 c) (k0_off10_inb c 1)
  have hin3 := load_inside (pr c 4) (rect_canon_3 c) (k0_off10_inb c 2)
  have hin4 := load_inside (pr c 3) (rect_canon_4 c) (k0_off10_inb c 3)
  have hin5 := load_inside (pr c 2) (rect_canon_5 c) (k0_off10_inb c 4)
  have hin6 := load_inside (pr c 1) (rect_canon_6 c) (k0_off10_inb c 5)
  have hin7 := load_inside (pr c 0) (rect_canon_7 c) (k0_off10_inb c 6)
  unfold bodyAt
  sl_unfold [cc0_body]
  set_option sl_exec.stopBefore "k0_part6" in sl_exec_parts
  ihave HB := (barGot_intro c) $$ HatB_pay1
  unfold barGot barPay slotPts
  icases HB with ⟨⟨⟨%fd0, Hd0⟩, #Hrr0⟩, ⟨⟨%fd1, Hd1⟩, #Hrr1⟩, ⟨⟨%fd2, Hd2⟩, #Hrr2⟩, ⟨⟨%fd3, Hd3⟩, #Hrr3⟩, ⟨⟨%fd4, Hd4⟩, #Hrr4⟩, ⟨⟨%fd5, Hd5⟩, #Hrr5⟩, ⟨⟨%fd6, Hd6⟩, #Hrr6⟩⟩
  sl_exec_parts
  have e0 := send_fill m c 0 (by decide) fs0 (run.sl.Hs0_w1 m c fs0) ⟨_, _, load_x m c (pr c 0) 0 (by decide) (off1_pr c 0) _ _ _ _, rfl⟩
  ihave Hs0 := e0 $$ Hs0
  ihave Hts0 := (Entails.of_eq (sendPack_eq c 0 _)) $$ Hts0
  clear e0 hw0
  sl_exec_parts
  have e1 := send_fill m c 1 (by decide) fs1 (run.sl.Hs1_w1 m c fs1) ⟨_, _, load_x m c (pr c 1) 1 (by decide) (off1_pr c 1) _ _ _ _, rfl⟩
  ihave Hs1 := e1 $$ Hs1
  ihave Hts1 := (Entails.of_eq (sendPack_eq c 1 _)) $$ Hts1
  clear e1 hw1
  sl_exec_parts
  have e2 := send_fill m c 2 (by decide) fs2 (run.sl.Hs2_w1 m c fs2) ⟨_, _, load_x m c (pr c 2) 2 (by decide) (off1_pr c 2) _ _ _ _, rfl⟩
  ihave Hs2 := e2 $$ Hs2
  ihave Hts2 := (Entails.of_eq (sendPack_eq c 2 _)) $$ Hts2
  clear e2 hw2
  sl_exec_parts
  have e3 := send_fill m c 3 (by decide) fs3 (run.sl.Hs3_w1 m c fs3) ⟨_, _, load_x m c (pr c 3) 3 (by decide) (off1_pr c 3) _ _ _ _, rfl⟩
  ihave Hs3 := e3 $$ Hs3
  ihave Hts3 := (Entails.of_eq (sendPack_eq c 3 _)) $$ Hts3
  clear e3 hw3
  sl_exec_parts
  have e4 := send_fill m c 4 (by decide) fs4 (run.sl.Hs4_w1 m c fs4) ⟨_, _, load_x m c (pr c 4) 4 (by decide) (off1_pr c 4) _ _ _ _, rfl⟩
  ihave Hs4 := e4 $$ Hs4
  ihave Hts4 := (Entails.of_eq (sendPack_eq c 4 _)) $$ Hts4
  clear e4 hw4
  sl_exec_parts
  have e5 := send_fill m c 5 (by decide) fs5 (run.sl.Hs5_w1 m c fs5) ⟨_, _, load_x m c (pr c 5) 5 (by decide) (off1_pr c 5) _ _ _ _, rfl⟩
  ihave Hs5 := e5 $$ Hs5
  ihave Hts5 := (Entails.of_eq (sendPack_eq c 5 _)) $$ Hts5
  clear e5 hw5
  sl_exec_parts
  have e6 := send_fill m c 6 (by decide) fs6 (run.sl.Hs6_w1 m c fs6) ⟨_, _, load_x m c (pr c 6) 6 (by decide) (off1_pr c 6) _ _ _ _, rfl⟩
  ihave Hs6 := e6 $$ Hs6
  ihave Hts6 := (Entails.of_eq (sendPack_eq c 6 _)) $$ Hts6
  clear e6 hw6
  sl_exec_parts
  sl_exec_parts
  have e9 : run.sl.r_9 m c HatR6_pay1_v HatR5_pay1_v HatR4_pay1_v = k0_pay15 (k0_pay14 (k0_pay13 (k0_pay12 (XT m c c) (wblk m c c)) (XT m (pr c 6) c) (wblk m c (pr c 6)))
          (XT m (pr c 5) c) (wblk m c (pr c 5))) (XT m (pr c 4) c) (wblk m c (pr c 4)) :=
    congr (congr (congrArg k0_pay15 (congr (congr (congrArg k0_pay14 (congr (congr (congrArg k0_pay13 (congr (congrArg k0_pay12
        (congrArg (fun v => k0_pay10 (k0_pay9 v)) (load_x m c c 7 (by decide) (k0_off2_eq c) _ _ _ _)))
        (load_w m c c 0 (by decide) (k0_off3_eq c) _ _ _ _)))
        (load_recv m c (pr c 6) (rect_canon_1 c) _ _)) (load_w m c (pr c 6) 1 (by decide) (off4_pr c 0) _ _ _ _)))
        (load_recv m c (pr c 5) (rect_canon_2 c) _ _)) (load_w m c (pr c 5) 2 (by decide) (off4_pr c 1) _ _ _ _)))
        (load_recv m c (pr c 4) (rect_canon_3 c) _ _)) (load_w m c (pr c 4) 3 (by decide) (off4_pr c 2) _ _ _ _)
  have e11 : run.sl.r_11 m c HatR6_pay1_v HatR5_pay1_v HatR4_pay1_v HatR3_pay1_v HatR2_pay1_v HatR1_pay1_v = accV m c :=
    congr (congr (congrArg k0_pay17 (congr (congr (congr (congr (congrArg k0_pay16 e9)
        (load_recv m c (pr c 3) (rect_canon_4 c) _ _)) (load_w m c (pr c 3) 0 (by decide) (off4_pr c 3) _ _ _ _))
        (load_recv m c (pr c 2) (rect_canon_5 c) _ _)) (load_w m c (pr c 2) 1 (by decide) (off4_pr c 4) _ _ _ _)))
        (load_recv m c (pr c 1) (rect_canon_6 c) _ _)) (load_w m c (pr c 1) 2 (by decide) (off4_pr c 5) _ _ _ _)
  have e5 : k0_pay11 (run.sl.r_3 m c) (run.sl.r_4 m c) = k0_pay11 (m ((c : Thread nD τ).loc main_arg2) (ix1 (0 : Fin 1))) (m ((c : Thread nD τ).loc main_arg3) (ix1 (0 : Fin 1))) :=
    congr (congrArg k0_pay11 (read_scale2 m c _ _)) (read_scale3 m c _ _)
  have eb : run.sl.v465 m c HatR0_pay1_v = XT m (pr c 0) c := load_recv m c (pr c 0) (rect_canon_7 c) _ _
  have ew : run.sl.v469 m c = wblk m c (pr c 0) := load_w m c (pr c 0) 3 (by decide) (off4_pr c 6) _ _ _ _
  have elo : k0_pay19 (run.sl.r_5 m c) (run.sl.r_11 m c HatR6_pay1_v HatR5_pay1_v HatR4_pay1_v HatR3_pay1_v HatR2_pay1_v HatR1_pay1_v) (run.sl.v465 m c HatR0_pay1_v) (run.sl.v469 m c) = outLo m c :=
    congr (congr (congr (congrArg k0_pay19 e5) e11) eb) ew
  have ehi : run.sl.v498 m c HatR6_pay1_v HatR5_pay1_v HatR4_pay1_v HatR3_pay1_v HatR2_pay1_v HatR1_pay1_v HatR0_pay1_v = outHi m c := congrArg k0_pay21 (congr (congr (congr (congrArg k0_pay20 e5) e11) eb) ew)
  ihave Hl := (lo_filled m c fl (run.sl.dma4 m c fy0 HatR6_pay1_v HatR5_pay1_v HatR4_pay1_v HatR3_pay1_v HatR2_pay1_v HatR1_pay1_v HatR0_pay1_v) (read_half 0 (by decide) _ _ _ _ _ elo)) $$ Hl
  ihave Hh := (hi_filled m c fh (run.sl.dma7_1 m c fy1 HatR6_pay1_v HatR5_pay1_v HatR4_pay1_v HatR3_pay1_v HatR2_pay1_v HatR1_pay1_v HatR0_pay1_v) (read_half 1 (by decide) _ _ _ _ _ ehi)) $$ Hh
  imod (close_cell m (K (c, 0)) (barCell c)) $$ [HatB] with HzB
  · isplitr; · iexact HIb
    iexact HatB
  imod (close_peer m c 0 (by decide) _ _ _) $$ [HatS0 HatR0 HatS0_pay1 HatR0_pay1] with HD0
  · isplitr; · iexact HIs0
    isplitr; · iexact HIi0
    isplitl [HatS0]; · iexact HatS0
    isplitl [HatR0]; · iexact HatR0
    isplitl [HatS0_pay1]; · iexact HatS0_pay1
    iexact HatR0_pay1
  imod (close_peer m c 1 (by decide) _ _ _) $$ [HatS1 HatR1 HatS1_pay1 HatR1_pay1] with HD1
  · isplitr; · iexact HIs1
    isplitr; · iexact HIi1
    isplitl [HatS1]; · iexact HatS1
    isplitl [HatR1]; · iexact HatR1
    isplitl [HatS1_pay1]; · iexact HatS1_pay1
    iexact HatR1_pay1
  imod (close_peer m c 2 (by decide) _ _ _) $$ [HatS2 HatR2 HatS2_pay1 HatR2_pay1] with HD2
  · isplitr; · iexact HIs2
    isplitr; · iexact HIi2
    isplitl [HatS2]; · iexact HatS2
    isplitl [HatR2]; · iexact HatR2
    isplitl [HatS2_pay1]; · iexact HatS2_pay1
    iexact HatR2_pay1
  imod (close_peer m c 3 (by decide) _ _ _) $$ [HatS3 HatR3 HatS3_pay1 HatR3_pay1] with HD3
  · isplitr; · iexact HIs3
    isplitr; · iexact HIi3
    isplitl [HatS3]; · iexact HatS3
    isplitl [HatR3]; · iexact HatR3
    isplitl [HatS3_pay1]; · iexact HatS3_pay1
    iexact HatR3_pay1
  imod (close_peer m c 4 (by decide) _ _ _) $$ [HatS4 HatR4 HatS4_pay1 HatR4_pay1] with HD4
  · isplitr; · iexact HIs4
    isplitr; · iexact HIi4
    isplitl [HatS4]; · iexact HatS4
    isplitl [HatR4]; · iexact HatR4
    isplitl [HatS4_pay1]; · iexact HatS4_pay1
    iexact HatR4_pay1
  imod (close_peer m c 5 (by decide) _ _ _) $$ [HatS5 HatR5 HatS5_pay1 HatR5_pay1] with HD5
  · isplitr; · iexact HIs5
    isplitr; · iexact HIi5
    isplitl [HatS5]; · iexact HatS5
    isplitl [HatR5]; · iexact HatR5
    isplitl [HatS5_pay1]; · iexact HatS5_pay1
    iexact HatR5_pay1
  imod (close_peer m c 6 (by decide) _ _ _) $$ [HatS6 HatR6 HatS6_pay1 HatR6_pay1] with HD6
  · isplitr; · iexact HIs6
    isplitr; · iexact HIi6
    isplitl [HatS6]; · iexact HatS6
    isplitl [HatR6]; · iexact HatR6
    isplitl [HatS6_pay1]; · iexact HatS6_pay1
    iexact HatR6_pay1
  rw [wp_ret]
  imodintro
  iapply HK
  unfold runPost kept slotPts
  sl_close

end Cert.KernelIdeal.Proto

end
-- ==== Proof.Split.lean ====
/-
# 01_k — `Split`: the device's buffers cut into the parts the run holds, and joined again
-/
module

public import proofs.«01_k».proof.Proof.Out
public import Idealize.ShloMosaic.Lib.Ring

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A buffer and its blocks -/

section Blocks

variable {ℓ : Loc nD τ sig} {B : Type} [Fintype B] [DecidableEq B] (I : B → Finset (Idx ℓ))
  (hd : ∀ b b', b ≠ b' → Disjoint (I b) (I b')) (hc : ∀ i, ∃ b, i ∈ I b)

omit [Fintype B] [DecidableEq B] in
theorem some_held (b : B) (f : Buf (Elt F) ℓ) : (ℓ ↦[I b]{fullShare} f : sProp 𝕄) ⊢ iprop(∃ f : Buf (Elt F) ℓ, ℓ ↦[I b]{fullShare} f) := by
  iintro H; iexists f; iexact H
include hc in
theorem cover_eq : Finset.univ.biUnion I = Finset.univ :=
  Finset.eq_univ_iff_forall.mpr fun i => let ⟨b, hb⟩ := hc i; Finset.mem_biUnion.mpr ⟨b, Finset.mem_univ b, hb⟩
include hd hc in
theorem blocks_cut : (iprop(∃ f : Buf (Elt F) ℓ, ℓ ↦{fullShare} f) : sProp 𝕄) ⊢ bigSep Finset.univ (fun b => iprop(∃ f : Buf (Elt F) ℓ, ℓ ↦[I b]{fullShare} f)) := by
  iintro ⟨%f, H⟩
  ihave H := (show (ℓ ↦{fullShare} f : sProp 𝕄) ⊢ bigSep Finset.univ (fun b => (ℓ ↦[I b]{fullShare} f : sProp 𝕄)) from Entails.of_eq (Ring.pointsTo_blocks I hd (cover_eq I hc) f)) $$ H
  have h : bigSep Finset.univ (fun b => (ℓ ↦[I b]{fullShare} f : sProp 𝕄)) ⊢ bigSep Finset.univ (fun b => iprop(∃ f : Buf (Elt F) ℓ, ℓ ↦[I b]{fullShare} f)) :=
    bigSep_mono fun b _ => some_held I b f
  iapply h
  iexact H
include hd hc in
theorem blocks_join [∀ e, Nonempty (Elt F e)] : bigSep Finset.univ (fun b => (iprop(∃ f : Buf (Elt F) ℓ, ℓ ↦[I b]{fullShare} f) : sProp 𝕄)) ⊢ iprop(∃ f : Buf (Elt F) ℓ, ℓ ↦{fullShare} f) :=
  Ring.pointsTo_blocks_join_exists I hd (cover_eq I hc) (Classical.arbitrary _)

/-- A buffer in two parts. -/
theorem halves_cut {I J : Finset (Idx ℓ)} (hd : Disjoint I J) (hc : ∀ i, i ∈ I ∨ i ∈ J) (f : Buf (Elt F) ℓ) :
    (ℓ ↦{fullShare} f : sProp 𝕄) = iprop((ℓ ↦[I]{fullShare} f) ∗ (ℓ ↦[J]{fullShare} f)) := by
  have h : (Finset.univ : Finset (Idx ℓ)) = I ∪ J := (Finset.eq_univ_iff_forall.mpr fun i => Finset.mem_union.mpr (hc i)).symm
  rw [h]
  exact equiv_iff.mp ⟨(pointsTo_union hd).1, (pointsTo_union hd).2⟩

end Blocks

/-! ## The slots of the four stacked buffers, and of the receive buffer -/

abbrev xI (k : Fin 8) : Finset S8x512x512.Idx := (xSl k.val k.isLt).view.set
theorem xI_eq (k : Fin 8) : xI k = (Rect.unit (s := S8x512x512) ![k.val, 0, 0] S1x512x512.size (inb8 k.val k.isLt)).set :=
  (Memref.set_view_squeeze _ _).trans (View.set_slice_whole _ _)
abbrev wI (k : Fin 4) : Finset S4x512x2048.Idx := (wSl k.val k.isLt).view.set
theorem wI_eq (k : Fin 4) : wI k = (Rect.unit (s := S4x512x2048) ![k.val, 0, 0] S1x512x2048.size (inb4 k.val k.isLt)).set :=
  (Memref.set_view_squeeze _ _).trans (View.set_slice_whole _ _)
abbrev sI (k : Fin 7) : Finset S7x512x512.Idx := (sSl k.val k.isLt).view.set
theorem sI_eq (k : Fin 7) : sI k = (Rect.unit (s := S7x512x512) ![k.val, 0, 0] S1x512x512.size (inb7 k.val k.isLt)).set :=
  (Memref.set_view_squeeze _ _).trans (View.set_slice_whole _ _)
abbrev yI (k : Fin 2) : Finset S2x512x1024.Idx := (ySl k.val k.isLt).view.set
theorem yI_eq (k : Fin 2) : yI k = (Rect.unit (s := S2x512x1024) ![k.val, 0, 0] S1x512x1024.size (inb2 k.val k.isLt)).set :=
  (Memref.set_view_squeeze _ _).trans (View.set_slice_whole _ _)
abbrev rI (s : Dev nD) : Finset S8x512x512.Idx := (rSl s).view.set
theorem rI_eq (s : Dev nD) : rI s = (Rect.unit (s := S8x512x512) (k0_off6 s) S1x512x512.size (k0_off6_inb s)).set :=
  (Memref.set_view_squeeze _ _).trans (View.set_slice_whole _ _)

theorem off6_0 (s : Fin 8) : k0_off6 s 0 = 1 * s.val := by rw [k0_off6_eq, Nat.one_mul]; rfl
theorem off6_rest (s : Fin 8) (a : Fin 3) (ha : a ≠ 0) : k0_off6 s a = 0 := by
  rw [k0_off6_eq]
  match a with
  | ⟨0, _⟩ => exact absurd rfl ha
  | ⟨1, _⟩ => rfl
  | ⟨2, _⟩ => rfl

/-- The two facts about a stacked buffer's slots: apart, and everything. -/
theorem slots_apart {n a b : ℕ} (inb : ∀ k : Fin n, ∀ i, ![k.val, 0, 0] i + ![1, a, b] i ≤ ((⟨3, ![n, a, b]⟩ : Shape)).size i) (k k' : Fin n) (h : k ≠ k') :
    Disjoint (Rect.unit (s := ⟨3, ![n, a, b]⟩) ![k.val, 0, 0] ![1, a, b] (inb k)).set (Rect.unit (s := ⟨3, ![n, a, b]⟩) ![k'.val, 0, 0] ![1, a, b] (inb k')).set :=
  Ring.lead_disjoint (s := ⟨3, ![n, a, b]⟩) (0 : Fin 3) 1 (fun j : Fin n => (![j.val, 0, 0] : Fin 3 → ℕ)) ![1, a, b] inb (fun j => (Nat.one_mul _).symm) rfl k k' h
theorem slots_all {n a b : ℕ} (inb : ∀ k : Fin n, ∀ i, ![k.val, 0, 0] i + ![1, a, b] i ≤ ((⟨3, ![n, a, b]⟩ : Shape)).size i) :
    Finset.univ.biUnion (fun k : Fin n => (Rect.unit (s := ⟨3, ![n, a, b]⟩) ![k.val, 0, 0] ![1, a, b] (inb k)).set) = Finset.univ :=
  Ring.lead_cover (s := ⟨3, ![n, a, b]⟩) (0 : Fin 3) 1 (fun j : Fin n => (![j.val, 0, 0] : Fin 3 → ℕ)) ![1, a, b] inb (fun j => (Nat.one_mul _).symm)
    (fun j i hi => by match i with
      | ⟨0, _⟩ => exact absurd rfl hi
      | ⟨1, _⟩ => rfl
      | ⟨2, _⟩ => rfl) rfl
    (fun i hi => by match i with
      | ⟨0, _⟩ => exact absurd rfl hi
      | ⟨1, _⟩ => rfl
      | ⟨2, _⟩ => rfl) (Nat.mul_one n)

theorem x_apart (k k' : Fin 8) (h : k ≠ k') : Disjoint (xI k) (xI k') := by
  rw [xI_eq, xI_eq]; exact slots_apart (n := 8) (a := 512) (b := 512) (fun k => inb8 k.val k.isLt) k k' h
theorem x_all (i) : ∃ k, i ∈ xI k := by
  have h : Finset.univ.biUnion xI = Finset.univ :=
    (Finset.biUnion_congr rfl fun k _ => xI_eq k).trans (slots_all (n := 8) (a := 512) (b := 512) fun k => inb8 k.val k.isLt)
  obtain ⟨k, _, hk⟩ := Finset.mem_biUnion.mp (h ▸ Finset.mem_univ i)
  exact ⟨k, hk⟩
theorem w_apart (k k' : Fin 4) (h : k ≠ k') : Disjoint (wI k) (wI k') := by
  rw [wI_eq, wI_eq]; exact slots_apart (n := 4) (a := 512) (b := 2048) (fun k => inb4 k.val k.isLt) k k' h
theorem w_all (i) : ∃ k, i ∈ wI k := by
  have h : Finset.univ.biUnion wI = Finset.univ :=
    (Finset.biUnion_congr rfl fun k _ => wI_eq k).trans (slots_all (n := 4) (a := 512) (b := 2048) fun k => inb4 k.val k.isLt)
  obtain ⟨k, _, hk⟩ := Finset.mem_biUnion.mp (h ▸ Finset.mem_univ i)
  exact ⟨k, hk⟩
theorem s_apart (k k' : Fin 7) (h : k ≠ k') : Disjoint (sI k) (sI k') := by
  rw [sI_eq, sI_eq]; exact slots_apart (n := 7) (a := 512) (b := 512) (fun k => inb7 k.val k.isLt) k k' h
theorem s_all (i) : ∃ k, i ∈ sI k := by
  have h : Finset.univ.biUnion sI = Finset.univ :=
    (Finset.biUnion_congr rfl fun k _ => sI_eq k).trans (slots_all (n := 7) (a := 512) (b := 512) fun k => inb7 k.val k.isLt)
  obtain ⟨k, _, hk⟩ := Finset.mem_biUnion.mp (h ▸ Finset.mem_univ i)
  exact ⟨k, hk⟩
theorem y_apart (k k' : Fin 2) (h : k ≠ k') : Disjoint (yI k) (yI k') := by
  rw [yI_eq, yI_eq]; exact slots_apart (n := 2) (a := 512) (b := 1024) (fun k => inb2 k.val k.isLt) k k' h
theorem y_all (i) : ∃ k, i ∈ yI k := by
  have h : Finset.univ.biUnion yI = Finset.univ :=
    (Finset.biUnion_congr rfl fun k _ => yI_eq k).trans (slots_all (n := 2) (a := 512) (b := 1024) fun k => inb2 k.val k.isLt)
  obtain ⟨k, _, hk⟩ := Finset.mem_biUnion.mp (h ▸ Finset.mem_univ i)
  exact ⟨k, hk⟩
theorem r_apart (s s' : Dev nD) (h : s ≠ s') : Disjoint (rI s) (rI s') := by
  rw [rI_eq, rI_eq]
  exact Ring.lead_disjoint (s := S8x512x512) (0 : Fin 3) 1 (fun j : Fin 8 => k0_off6 j) S1x512x512.size (fun j => k0_off6_inb j) off6_0 rfl s s' h
theorem r_all (i) : ∃ k, i ∈ rI k := by
  have h : Finset.univ.biUnion rI = Finset.univ :=
    (Finset.biUnion_congr rfl fun k _ => rI_eq k).trans
    (Ring.lead_cover (s := S8x512x512) (0 : Fin 3) 1 (fun j : Fin 8 => k0_off6 j) S1x512x512.size (fun j => k0_off6_inb j) off6_0 off6_rest rfl
      (fun i hi => by match i with
        | ⟨0, _⟩ => exact absurd rfl hi
        | ⟨1, _⟩ => rfl
        | ⟨2, _⟩ => rfl) rfl)
  obtain ⟨k, _, hk⟩ := Finset.mem_biUnion.mp (h ▸ Finset.mem_univ i)
  exact ⟨k, hk⟩

/-- The two halves of the result array: apart, and everything. -/
abbrev loI : Finset S512x2048.Idx := oLo.view.set
abbrev hiI : Finset S512x2048.Idx := oHi.view.set
theorem oLo_set : loI = (Rect.unit (s := S512x2048) ![0, 0] S512x1024.size inb_S512x2048_S512x1024_0_0).set := View.set_slice_whole _ _
theorem oHi_set : hiI = (Rect.unit (s := S512x2048) ![0, 1024] S512x1024.size inb_S512x2048_S512x1024_0_1024).set := View.set_slice_whole _ _
theorem o_apart : Disjoint loI hiI := by
  rw [oLo_set, oHi_set, Finset.disjoint_left]
  intro i hi hi'
  have h1 := (Rect.mem_set_unit.mp hi) 1
  have h2 := (Rect.mem_set_unit.mp hi') 1
  have h3 : (i 1).val < 0 + 1024 := h1.2
  have h4 : 1024 ≤ (i 1).val := h2.1
  omega
theorem o_all (i) : i ∈ loI ∨ i ∈ hiI := by
  rw [oLo_set, oHi_set]
  have h0 : (i 0).val < 512 := (i 0).isLt
  have h1 : (i 1).val < 2048 := (i 1).isLt
  simp only [Rect.mem_set_unit]
  by_cases h : (i 1).val < 1024
  · left; intro a
    match a with
    | ⟨0, _⟩ => exact ⟨Nat.zero_le _, show (i 0).val < 0 + 512 by omega⟩
    | ⟨1, _⟩ => exact ⟨Nat.zero_le _, show (i 1).val < 0 + 1024 by omega⟩
  · right; intro a
    match a with
    | ⟨0, _⟩ => exact ⟨Nat.zero_le _, show (i 0).val < 0 + 512 by omega⟩
    | ⟨1, _⟩ => exact ⟨show 1024 ≤ (i 1).val by omega, show (i 1).val < 1024 + 1024 by omega⟩

theorem out_eq (c : Dev nD) (f : Buf (Elt F) ((c : Thread nD τ).loc main_v1)) :
    (((c : Thread nD τ).loc main_v1) ↦{fullShare} f : sProp 𝕄)
      = iprop((((c : Thread nD τ).loc main_v1) ↦[loI]{fullShare} f) ∗ (((c : Thread nD τ).loc main_v1) ↦[hiI]{fullShare} f)) :=
  halves_cut (ℓ := (c : Thread nD τ).loc main_v1) (I := loI) (J := hiI) o_apart o_all f

/-! ## Each scratch buffer as its slots, and back -/

def xSlots (c : Dev nD) : sProp 𝕄 :=
  iprop((∃ f, (xSl 0).view.loc (c : Thread nD τ) ↦[(xSl 0).view.set]{fullShare} f)
      ∗ (∃ f, (xSl 1).view.loc (c : Thread nD τ) ↦[(xSl 1).view.set]{fullShare} f)
      ∗ (∃ f, (xSl 2).view.loc (c : Thread nD τ) ↦[(xSl 2).view.set]{fullShare} f)
      ∗ (∃ f, (xSl 3).view.loc (c : Thread nD τ) ↦[(xSl 3).view.set]{fullShare} f)
      ∗ (∃ f, (xSl 4).view.loc (c : Thread nD τ) ↦[(xSl 4).view.set]{fullShare} f)
      ∗ (∃ f, (xSl 5).view.loc (c : Thread nD τ) ↦[(xSl 5).view.set]{fullShare} f)
      ∗ (∃ f, (xSl 6).view.loc (c : Thread nD τ) ↦[(xSl 6).view.set]{fullShare} f)
      ∗ (∃ f, (xSl 7).view.loc (c : Thread nD τ) ↦[(xSl 7).view.set]{fullShare} f))

theorem xSlots_eq (c : Dev nD) : (bigSep Finset.univ (fun k : Fin 8 => (iprop(∃ f : Buf (Elt F) ((c : Thread nD τ).loc cc0_scratch0), ((c : Thread nD τ).loc cc0_scratch0) ↦[xI k]{fullShare} f) : sProp 𝕄))) = xSlots c :=
  bigSep_univ_eq_bigSepL [0, 1, 2, 3, 4, 5, 6, 7] (by decide) (by decide) _

theorem x_cut (c : Dev nD) : (iprop(∃ f : Buf (Elt F) ((c : Thread nD τ).loc cc0_scratch0), ((c : Thread nD τ).loc cc0_scratch0) ↦{fullShare} f) : sProp 𝕄) ⊢ xSlots c :=
  (blocks_cut (ℓ := (c : Thread nD τ).loc cc0_scratch0) xI x_apart x_all).trans (Entails.of_eq (xSlots_eq c))

theorem x_join [∀ e, Nonempty (Elt F e)] (c : Dev nD) : xSlots c ⊢ (iprop(∃ f : Buf (Elt F) ((c : Thread nD τ).loc cc0_scratch0), ((c : Thread nD τ).loc cc0_scratch0) ↦{fullShare} f) : sProp 𝕄) :=
  (Entails.of_eq (xSlots_eq c).symm).trans (blocks_join (ℓ := (c : Thread nD τ).loc cc0_scratch0) xI x_apart x_all)

def wSlots (c : Dev nD) : sProp 𝕄 :=
  iprop((∃ f, (wSl 0).view.loc (c : Thread nD τ) ↦[(wSl 0).view.set]{fullShare} f)
      ∗ (∃ f, (wSl 1).view.loc (c : Thread nD τ) ↦[(wSl 1).view.set]{fullShare} f)
      ∗ (∃ f, (wSl 2).view.loc (c : Thread nD τ) ↦[(wSl 2).view.set]{fullShare} f)
      ∗ (∃ f, (wSl 3).view.loc (c : Thread nD τ) ↦[(wSl 3).view.set]{fullShare} f))

theorem wSlots_eq (c : Dev nD) : (bigSep Finset.univ (fun k : Fin 4 => (iprop(∃ f : Buf (Elt F) ((c : Thread nD τ).loc cc0_scratch1), ((c : Thread nD τ).loc cc0_scratch1) ↦[wI k]{fullShare} f) : sProp 𝕄))) = wSlots c :=
  bigSep_univ_eq_bigSepL [0, 1, 2, 3] (by decide) (by decide) _

theorem w_cut (c : Dev nD) : (iprop(∃ f : Buf (Elt F) ((c : Thread nD τ).loc cc0_scratch1), ((c : Thread nD τ).loc cc0_scratch1) ↦{fullShare} f) : sProp 𝕄) ⊢ wSlots c :=
  (blocks_cut (ℓ := (c : Thread nD τ).loc cc0_scratch1) wI w_apart w_all).trans (Entails.of_eq (wSlots_eq c))

theorem w_join [∀ e, Nonempty (Elt F e)] (c : Dev nD) : wSlots c ⊢ (iprop(∃ f : Buf (Elt F) ((c : Thread nD τ).loc cc0_scratch1), ((c : Thread nD τ).loc cc0_scratch1) ↦{fullShare} f) : sProp 𝕄) :=
  (Entails.of_eq (wSlots_eq c).symm).trans (blocks_join (ℓ := (c : Thread nD τ).loc cc0_scratch1) wI w_apart w_all)

def sSlots (c : Dev nD) : sProp 𝕄 :=
  iprop((∃ f, (sSl 0).view.loc (c : Thread nD τ) ↦[(sSl 0).view.set]{fullShare} f)
      ∗ (∃ f, (sSl 1).view.loc (c : Thread nD τ) ↦[(sSl 1).view.set]{fullShare} f)
      ∗ (∃ f, (sSl 2).view.loc (c : Thread nD τ) ↦[(sSl 2).view.set]{fullShare} f)
      ∗ (∃ f, (sSl 3).view.loc (c : Thread nD τ) ↦[(sSl 3).view.set]{fullShare} f)
      ∗ (∃ f, (sSl 4).view.loc (c : Thread nD τ) ↦[(sSl 4).view.set]{fullShare} f)
      ∗ (∃ f, (sSl 5).view.loc (c : Thread nD τ) ↦[(sSl 5).view.set]{fullShare} f)
      ∗ (∃ f, (sSl 6).view.loc (c : Thread nD τ) ↦[(sSl 6).view.set]{fullShare} f))

theorem sSlots_eq (c : Dev nD) : (bigSep Finset.univ (fun k : Fin 7 => (iprop(∃ f : Buf (Elt F) ((c : Thread nD τ).loc cc0_scratch2), ((c : Thread nD τ).loc cc0_scratch2) ↦[sI k]{fullShare} f) : sProp 𝕄))) = sSlots c :=
  bigSep_univ_eq_bigSepL [0, 1, 2, 3, 4, 5, 6] (by decide) (by decide) _

theorem s_cut (c : Dev nD) : (iprop(∃ f : Buf (Elt F) ((c : Thread nD τ).loc cc0_scratch2), ((c : Thread nD τ).loc cc0_scratch2) ↦{fullShare} f) : sProp 𝕄) ⊢ sSlots c :=
  (blocks_cut (ℓ := (c : Thread nD τ).loc cc0_scratch2) sI s_apart s_all).trans (Entails.of_eq (sSlots_eq c))

theorem s_join [∀ e, Nonempty (Elt F e)] (c : Dev nD) : sSlots c ⊢ (iprop(∃ f : Buf (Elt F) ((c : Thread nD τ).loc cc0_scratch2), ((c : Thread nD τ).loc cc0_scratch2) ↦{fullShare} f) : sProp 𝕄) :=
  (Entails.of_eq (sSlots_eq c).symm).trans (blocks_join (ℓ := (c : Thread nD τ).loc cc0_scratch2) sI s_apart s_all)

def ySlots (c : Dev nD) : sProp 𝕄 :=
  iprop((∃ f, (ySl 0).view.loc (c : Thread nD τ) ↦[(ySl 0).view.set]{fullShare} f)
      ∗ (∃ f, (ySl 1).view.loc (c : Thread nD τ) ↦[(ySl 1).view.set]{fullShare} f))

theorem ySlots_eq (c : Dev nD) : (bigSep Finset.univ (fun k : Fin 2 => (iprop(∃ f : Buf (Elt F) ((c : Thread nD τ).loc cc0_scratch4), ((c : Thread nD τ).loc cc0_scratch4) ↦[yI k]{fullShare} f) : sProp 𝕄))) = ySlots c :=
  bigSep_univ_eq_bigSepL [0, 1] (by decide) (by decide) _

theorem y_cut (c : Dev nD) : (iprop(∃ f : Buf (Elt F) ((c : Thread nD τ).loc cc0_scratch4), ((c : Thread nD τ).loc cc0_scratch4) ↦{fullShare} f) : sProp 𝕄) ⊢ ySlots c :=
  (blocks_cut (ℓ := (c : Thread nD τ).loc cc0_scratch4) yI y_apart y_all).trans (Entails.of_eq (ySlots_eq c))

theorem y_join [∀ e, Nonempty (Elt F e)] (c : Dev nD) : ySlots c ⊢ (iprop(∃ f : Buf (Elt F) ((c : Thread nD τ).loc cc0_scratch4), ((c : Thread nD τ).loc cc0_scratch4) ↦{fullShare} f) : sProp 𝕄) :=
  (Entails.of_eq (ySlots_eq c).symm).trans (blocks_join (ℓ := (c : Thread nD τ).loc cc0_scratch4) yI y_apart y_all)

def rSlots (c : Dev nD) : sProp 𝕄 :=
  iprop((∃ f, slotPts c c f)
      ∗ (∃ f, slotPts c (pr c 0) f)
      ∗ (∃ f, slotPts c (pr c 1) f)
      ∗ (∃ f, slotPts c (pr c 2) f)
      ∗ (∃ f, slotPts c (pr c 3) f)
      ∗ (∃ f, slotPts c (pr c 4) f)
      ∗ (∃ f, slotPts c (pr c 5) f)
      ∗ (∃ f, slotPts c (pr c 6) f))

theorem devs_list (c : Dev nD) : Finset.univ = ([c, pr c 0, pr c 1, pr c 2, pr c 3, pr c 4, pr c 5, pr c 6] : List (Dev nD)).toFinset := by revert c; decide
theorem devs_nodup (c : Dev nD) : ([c, pr c 0, pr c 1, pr c 2, pr c 3, pr c 4, pr c 5, pr c 6] : List (Dev nD)).Nodup := by revert c; decide

theorem rSlots_eq (c : Dev nD) : (bigSep Finset.univ (fun s : Dev nD => (iprop(∃ f : Buf (Elt F) ((c : Thread nD τ).loc cc0_scratch3), ((c : Thread nD τ).loc cc0_scratch3) ↦[rI s]{fullShare} f) : sProp 𝕄))) = rSlots c :=
  bigSep_univ_eq_bigSepL [c, pr c 0, pr c 1, pr c 2, pr c 3, pr c 4, pr c 5, pr c 6] (devs_list c) (devs_nodup c) _

theorem r_cut (c : Dev nD) : (iprop(∃ f : Buf (Elt F) ((c : Thread nD τ).loc cc0_scratch3), ((c : Thread nD τ).loc cc0_scratch3) ↦{fullShare} f) : sProp 𝕄) ⊢ rSlots c :=
  (blocks_cut (ℓ := (c : Thread nD τ).loc cc0_scratch3) rI r_apart r_all).trans (Entails.of_eq (rSlots_eq c))

theorem r_join [∀ e, Nonempty (Elt F e)] (c : Dev nD) : rSlots c ⊢ (iprop(∃ f : Buf (Elt F) ((c : Thread nD τ).loc cc0_scratch3), ((c : Thread nD τ).loc cc0_scratch3) ↦{fullShare} f) : sProp 𝕄) :=
  (Entails.of_eq (rSlots_eq c).symm).trans (blocks_join (ℓ := (c : Thread nD τ).loc cc0_scratch3) rI r_apart r_all)

/-! ## An argument array as fractions, one per transfer that reads it -/

def xUsed (c : Dev nD) : sProp 𝕄 :=
  iprop((xA.view.loc (c : Thread nD τ) ↦{Transfers.shareTokN fullShare 2} m ((c : Thread nD τ).loc main_arg0))
      ∗ (xA.view.loc (c : Thread nD τ) ↦{Transfers.shareTokN fullShare 3} m ((c : Thread nD τ).loc main_arg0))
      ∗ (xA.view.loc (c : Thread nD τ) ↦{Transfers.shareTokN fullShare 4} m ((c : Thread nD τ).loc main_arg0))
      ∗ (xA.view.loc (c : Thread nD τ) ↦{Transfers.shareTokN fullShare 5} m ((c : Thread nD τ).loc main_arg0))
      ∗ (xA.view.loc (c : Thread nD τ) ↦{Transfers.shareTokN fullShare 6} m ((c : Thread nD τ).loc main_arg0))
      ∗ (xA.view.loc (c : Thread nD τ) ↦{Transfers.shareTokN fullShare 7} m ((c : Thread nD τ).loc main_arg0))
      ∗ (xA.view.loc (c : Thread nD τ) ↦{Transfers.shareTokN fullShare 8} m ((c : Thread nD τ).loc main_arg0))
      ∗ (xA.view.loc (c : Thread nD τ) ↦{Transfers.shareTokN fullShare 9} m ((c : Thread nD τ).loc main_arg0)))

def xRest (c : Dev nD) : sProp 𝕄 :=
  iprop((((c : Thread nD τ).loc main_arg0) ↦{Transfers.shareDrop fullShare 14} m ((c : Thread nD τ).loc main_arg0))
      ∗ (((c : Thread nD τ).loc main_arg0) ↦{Transfers.shareTokN fullShare 0} m ((c : Thread nD τ).loc main_arg0))
      ∗ (((c : Thread nD τ).loc main_arg0) ↦{Transfers.shareTokN fullShare 1} m ((c : Thread nD τ).loc main_arg0))
      ∗ (((c : Thread nD τ).loc main_arg0) ↦{Transfers.shareTokN fullShare 10} m ((c : Thread nD τ).loc main_arg0))
      ∗ (((c : Thread nD τ).loc main_arg0) ↦{Transfers.shareTokN fullShare 11} m ((c : Thread nD τ).loc main_arg0))
      ∗ (((c : Thread nD τ).loc main_arg0) ↦{Transfers.shareTokN fullShare 12} m ((c : Thread nD τ).loc main_arg0))
      ∗ (((c : Thread nD τ).loc main_arg0) ↦{Transfers.shareTokN fullShare 13} m ((c : Thread nD τ).loc main_arg0)))

theorem xToks_eq (c : Dev nD) : (bigSep (Finset.range 14) (fun i => (((c : Thread nD τ).loc main_arg0) ↦{Transfers.shareTokN fullShare i} m ((c : Thread nD τ).loc main_arg0) : sProp 𝕄)))
    = iprop((((c : Thread nD τ).loc main_arg0) ↦{Transfers.shareTokN fullShare 0} m ((c : Thread nD τ).loc main_arg0)) ∗ (((c : Thread nD τ).loc main_arg0) ↦{Transfers.shareTokN fullShare 1} m ((c : Thread nD τ).loc main_arg0)) ∗ (((c : Thread nD τ).loc main_arg0) ↦{Transfers.shareTokN fullShare 2} m ((c : Thread nD τ).loc main_arg0)) ∗ (((c : Thread nD τ).loc main_arg0) ↦{Transfers.shareTokN fullShare 3} m ((c : Thread nD τ).loc main_arg0)) ∗ (((c : Thread nD τ).loc main_arg0) ↦{Transfers.shareTokN fullShare 4} m ((c : Thread nD τ).loc main_arg0)) ∗ (((c : Thread nD τ).loc main_arg0) ↦{Transfers.shareTokN fullShare 5} m ((c : Thread nD τ).loc main_arg0)) ∗ (((c : Thread nD τ).loc main_arg0) ↦{Transfers.shareTokN fullShare 6} m ((c : Thread nD τ).loc main_arg0)) ∗ (((c : Thread nD τ).loc main_arg0) ↦{Transfers.shareTokN fullShare 7} m ((c : Thread nD τ).loc main_arg0)) ∗ (((c : Thread nD τ).loc main_arg0) ↦{Transfers.shareTokN fullShare 8} m ((c : Thread nD τ).loc main_arg0)) ∗ (((c : Thread nD τ).loc main_arg0) ↦{Transfers.shareTokN fullShare 9} m ((c : Thread nD τ).loc main_arg0)) ∗ (((c : Thread nD τ).loc main_arg0) ↦{Transfers.shareTokN fullShare 10} m ((c : Thread nD τ).loc main_arg0)) ∗ (((c : Thread nD τ).loc main_arg0) ↦{Transfers.shareTokN fullShare 11} m ((c : Thread nD τ).loc main_arg0)) ∗ (((c : Thread nD τ).loc main_arg0) ↦{Transfers.shareTokN fullShare 12} m ((c : Thread nD τ).loc main_arg0)) ∗ (((c : Thread nD τ).loc main_arg0) ↦{Transfers.shareTokN fullShare 13} m ((c : Thread nD τ).loc main_arg0))) :=
  bigSep_eq_bigSepL_of_eq [0, 1, 2, 3, 4, 5, 6, 7, 8, 9, 10, 11, 12, 13] (by decide) (by decide) _

theorem x_toks (c : Dev nD) : (((c : Thread nD τ).loc main_arg0) ↦{fullShare} m ((c : Thread nD τ).loc main_arg0) : sProp 𝕄) ⊢ iprop(xUsed m c ∗ xRest m c) := by
  iintro H
  ihave H := (Transfers.pointsTo_toks_range fullShare 14).1 $$ H
  icases H with ⟨Hd, H⟩
  ihave H := (Entails.of_eq (xToks_eq m c)) $$ H
  unfold xUsed xRest
  icases H with ⟨H0, H1, H2, H3, H4, H5, H6, H7, H8, H9, H10, H11, H12, H13⟩
  sl_close

theorem x_whole (c : Dev nD) : iprop(xUsed m c ∗ xRest m c) ⊢ (((c : Thread nD τ).loc main_arg0) ↦{fullShare} m ((c : Thread nD τ).loc main_arg0) : sProp 𝕄) := by
  iintro ⟨Hu, Hr⟩
  unfold xUsed xRest
  icases Hu with ⟨H2, H3, H4, H5, H6, H7, H8, H9⟩
  icases Hr with ⟨Hd, H0, H1, H10, H11, H12, H13⟩
  iapply (Transfers.pointsTo_toks_range fullShare 14).2
  isplitl [Hd]; · iexact Hd
  iapply (Entails.of_eq (xToks_eq m c).symm)
  sl_close

def wUsed (c : Dev nD) : sProp 𝕄 :=
  iprop((wA.view.loc (c : Thread nD τ) ↦{Transfers.shareTokN fullShare 10} m ((c : Thread nD τ).loc main_arg1))
      ∗ (wA.view.loc (c : Thread nD τ) ↦{Transfers.shareTokN fullShare 11} m ((c : Thread nD τ).loc main_arg1))
      ∗ (wA.view.loc (c : Thread nD τ) ↦{Transfers.shareTokN fullShare 12} m ((c : Thread nD τ).loc main_arg1))
      ∗ (wA.view.loc (c : Thread nD τ) ↦{Transfers.shareTokN fullShare 13} m ((c : Thread nD τ).loc main_arg1)))

def wRest (c : Dev nD) : sProp 𝕄 :=
  iprop((((c : Thread nD τ).loc main_arg1) ↦{Transfers.shareDrop fullShare 14} m ((c : Thread nD τ).loc main_arg1))
      ∗ (((c : Thread nD τ).loc main_arg1) ↦{Transfers.shareTokN fullShare 0} m ((c : Thread nD τ).loc main_arg1))
      ∗ (((c : Thread nD τ).loc main_arg1) ↦{Transfers.shareTokN fullShare 1} m ((c : Thread nD τ).loc main_arg1))
      ∗ (((c : Thread nD τ).loc main_arg1) ↦{Transfers.shareTokN fullShare 2} m ((c : Thread nD τ).loc main_arg1))
      ∗ (((c : Thread nD τ).loc main_arg1) ↦{Transfers.shareTokN fullShare 3} m ((c : Thread nD τ).loc main_arg1))
      ∗ (((c : Thread nD τ).loc main_arg1) ↦{Transfers.shareTokN fullShare 4} m ((c : Thread nD τ).loc main_arg1))
      ∗ (((c : Thread nD τ).loc main_arg1) ↦{Transfers.shareTokN fullShare 5} m ((c : Thread nD τ).loc main_arg1))
      ∗ (((c : Thread nD τ).loc main_arg1) ↦{Transfers.shareTokN fullShare 6} m ((c : Thread nD τ).loc main_arg1))
      ∗ (((c : Thread nD τ).loc main_arg1) ↦{Transfers.shareTokN fullShare 7} m ((c : Thread nD τ).loc main_arg1))
      ∗ (((c : Thread nD τ).loc main_arg1) ↦{Transfers.shareTokN fullShare 8} m ((c : Thread nD τ).loc main_arg1))
      ∗ (((c : Thread nD τ).loc main_arg1) ↦{Transfers.shareTokN fullShare 9} m ((c : Thread nD τ).loc main_arg1)))

theorem wToks_eq (c : Dev nD) : (bigSep (Finset.range 14) (fun i => (((c : Thread nD τ).loc main_arg1) ↦{Transfers.shareTokN fullShare i} m ((c : Thread nD τ).loc main_arg1) : sProp 𝕄)))
    = iprop((((c : Thread nD τ).loc main_arg1) ↦{Transfers.shareTokN fullShare 0} m ((c : Thread nD τ).loc main_arg1)) ∗ (((c : Thread nD τ).loc main_arg1) ↦{Transfers.shareTokN fullShare 1} m ((c : Thread nD τ).loc main_arg1)) ∗ (((c : Thread nD τ).loc main_arg1) ↦{Transfers.shareTokN fullShare 2} m ((c : Thread nD τ).loc main_arg1)) ∗ (((c : Thread nD τ).loc main_arg1) ↦{Transfers.shareTokN fullShare 3} m ((c : Thread nD τ).loc main_arg1)) ∗ (((c : Thread nD τ).loc main_arg1) ↦{Transfers.shareTokN fullShare 4} m ((c : Thread nD τ).loc main_arg1)) ∗ (((c : Thread nD τ).loc main_arg1) ↦{Transfers.shareTokN fullShare 5} m ((c : Thread nD τ).loc main_arg1)) ∗ (((c : Thread nD τ).loc main_arg1) ↦{Transfers.shareTokN fullShare 6} m ((c : Thread nD τ).loc main_arg1)) ∗ (((c : Thread nD τ).loc main_arg1) ↦{Transfers.shareTokN fullShare 7} m ((c : Thread nD τ).loc main_arg1)) ∗ (((c : Thread nD τ).loc main_arg1) ↦{Transfers.shareTokN fullShare 8} m ((c : Thread nD τ).loc main_arg1)) ∗ (((c : Thread nD τ).loc main_arg1) ↦{Transfers.shareTokN fullShare 9} m ((c : Thread nD τ).loc main_arg1)) ∗ (((c : Thread nD τ).loc main_arg1) ↦{Transfers.shareTokN fullShare 10} m ((c : Thread nD τ).loc main_arg1)) ∗ (((c : Thread nD τ).loc main_arg1) ↦{Transfers.shareTokN fullShare 11} m ((c : Thread nD τ).loc main_arg1)) ∗ (((c : Thread nD τ).loc main_arg1) ↦{Transfers.shareTokN fullShare 12} m ((c : Thread nD τ).loc main_arg1)) ∗ (((c : Thread nD τ).loc main_arg1) ↦{Transfers.shareTokN fullShare 13} m ((c : Thread nD τ).loc main_arg1))) :=
  bigSep_eq_bigSepL_of_eq [0, 1, 2, 3, 4, 5, 6, 7, 8, 9, 10, 11, 12, 13] (by decide) (by decide) _

theorem w_toks (c : Dev nD) : (((c : Thread nD τ).loc main_arg1) ↦{fullShare} m ((c : Thread nD τ).loc main_arg1) : sProp 𝕄) ⊢ iprop(wUsed m c ∗ wRest m c) := by
  iintro H
  ihave H := (Transfers.pointsTo_toks_range fullShare 14).1 $$ H
  icases H with ⟨Hd, H⟩
  ihave H := (Entails.of_eq (wToks_eq m c)) $$ H
  unfold wUsed wRest
  icases H with ⟨H0, H1, H2, H3, H4, H5, H6, H7, H8, H9, H10, H11, H12, H13⟩
  sl_close

theorem w_whole (c : Dev nD) : iprop(wUsed m c ∗ wRest m c) ⊢ (((c : Thread nD τ).loc main_arg1) ↦{fullShare} m ((c : Thread nD τ).loc main_arg1) : sProp 𝕄) := by
  iintro ⟨Hu, Hr⟩
  unfold wUsed wRest
  icases Hu with ⟨H10, H11, H12, H13⟩
  icases Hr with ⟨Hd, H0, H1, H2, H3, H4, H5, H6, H7, H8, H9⟩
  iapply (Transfers.pointsTo_toks_range fullShare 14).2
  isplitl [Hd]; · iexact Hd
  iapply (Entails.of_eq (wToks_eq m c).symm)
  sl_close

end Cert.KernelIdeal.Proto

end
-- ==== Proof.Deal.lean ====
/-
# 01_k — `Deal`: the exchange's ghost state, dealt to the devices

At launch every device's cells get their invariants, and every duty's token goes to the device that pays it. Duty `k` of
device `c`'s barrier cell and the one duty of its receive cell for `pr c k` are paid by device `pr c k`; seen from there
`c` is the device number `6 - k`. So the tokens move along `(c, k) ↦ (pr c k, 6 - k)`, which is its own inverse.
-/
module

public import proofs.«01_k».proof.Proof.Split

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells, listed -/

/-- Which cell of device `c` number `j` is: its barrier, its seven send cells, its receive cells by place of the sender. -/
def kcell (cj : Dev nD × Fin 15) : GSem nD τ sig :=
  ((cj.1 : Thread nD τ), if cj.2.val = 0 then .reg barS else if h : cj.2.val < 8 then .dma (sS (cj.2.val - 1) (by omega)) else .dma (rS (pr cj.1 (cj.2.val - 8))))

theorem kcell_bar (c : Dev nD) : kcell (c, 0) = barCell c := rfl
theorem sS_eq {k j : ℕ} (e : k = j) (hk : k < 7) (hj : j < 7) : (sS k hk : DmaSem sig) = sS j hj := by subst e; rfl
theorem kcell_send (c : Dev nD) (k : ℕ) (h : k < 7) : kcell (c, iS k h) = sendCell c k h := by
  unfold kcell
  rw [if_neg (show ¬ (iS k h).val = 0 from by show ¬ 1 + k = 0; omega), dif_pos (show (iS k h).val < 8 from by show 1 + k < 8; omega)]
  exact congrArg (fun s => (((c : Thread nD τ), SemLoc.dma s) : GSem nD τ sig)) (sS_eq (show 1 + k - 1 = k by omega) _ h)
theorem kcell_recv (c : Dev nD) (k : ℕ) (h : k < 7) : kcell (c, iR k h) = recvCell c (pr c k) := by
  unfold kcell
  rw [if_neg (show ¬ (iR k h).val = 0 from by show ¬ 8 + k = 0; omega), dif_neg (show ¬ (iR k h).val < 8 from by show ¬ 8 + k < 8; omega)]
  exact congrArg (fun n => (((c : Thread nD τ), SemLoc.dma (rS (pr c n))) : GSem nD τ sig)) (show 8 + k - 8 = k by omega)

theorem fin15 (j : Fin 15) : j = 0 ∨ (∃ k h, j = iS k h) ∨ ∃ k h, j = iR k h := by
  have hj := j.isLt
  by_cases h0 : j.val = 0
  · exact .inl (Fin.ext h0)
  by_cases h8 : j.val < 8
  · exact .inr (.inl ⟨j.val - 1, by omega, Fin.ext (show j.val = 1 + (j.val - 1) by omega)⟩)
  · exact .inr (.inr ⟨j.val - 8, by omega, Fin.ext (show j.val = 8 + (j.val - 8) by omega)⟩)

theorem recvIx_send (k : ℕ) (h : k < 7) : recvIx (.dma (sS k h)) = none := recvIx_s ⟨k, h⟩
theorem sendIx_send (k : ℕ) (h : k < 7) : sendIx (.dma (sS k h)) = some ⟨k, h⟩ := sendIx_s ⟨k, h⟩
theorem send_ne_recv (k : ℕ) (h : k < 7) (s : Dev nD) : (SemLoc.dma (sS k h) : SemLoc sig) ≠ .dma (rS s) := fun e => by
  have h1 := congrArg recvIx e
  rw [recvIx_send, recvIx_r] at h1
  cases h1
theorem rS_inj {s t : Dev nD} (e : (SemLoc.dma (rS s) : SemLoc sig) = .dma (rS t)) : s = t := by
  have h1 := congrArg recvIx e
  rw [recvIx_r, recvIx_r] at h1
  exact Option.some.inj h1
theorem sS_inj {k j : ℕ} {hk : k < 7} {hj : j < 7} (e : (SemLoc.dma (sS k hk) : SemLoc sig) = .dma (sS j hj)) : k = j := by
  have h1 := congrArg sendIx e
  rw [sendIx_send, sendIx_send] at h1
  exact congrArg Fin.val (Option.some.inj h1)

theorem kcell_dev {a b : Dev nD × Fin 15} (h : kcell a = kcell b) : a.1 = b.1 := congrArg (fun g : GSem nD τ sig => g.1.1) h

theorem kcell_injective : Function.Injective (kcell : Dev nD × Fin 15 → GSem nD τ sig) := by
  rintro ⟨c, j⟩ ⟨c', j'⟩ h
  have h1 : c = c' := kcell_dev h
  subst h1
  rcases fin15 j with rfl | ⟨k, hk, rfl⟩ | ⟨k, hk, rfl⟩ <;> rcases fin15 j' with rfl | ⟨i, hi, rfl⟩ | ⟨i, hi, rfl⟩ <;>
    simp only [kcell_bar, kcell_send, kcell_recv] at h
  · rfl
  · exact absurd (congrArg Prod.snd h).symm (send_ne_bar i hi)
  · exact absurd (congrArg Prod.snd h).symm (recv_ne_bar _)
  · exact absurd (congrArg Prod.snd h) (send_ne_bar k hk)
  · obtain rfl := sS_inj (congrArg Prod.snd h); rfl
  · exact absurd (congrArg Prod.snd h) (send_ne_recv k hk _)
  · exact absurd (congrArg Prod.snd h) (recv_ne_bar _)
  · exact absurd (congrArg Prod.snd h).symm (send_ne_recv i hi _)
  · obtain rfl := pr_inj c hk hi (rS_inj (congrArg Prod.snd h)); rfl

def exCells : Finset (GSem nD τ sig) := Finset.univ.map ⟨kcell, kcell_injective⟩

theorem fin7_eq (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- A device's cells: the barrier, the send cells, the receive cells. -/
theorem fin15_eq (Φ : Fin 15 → sProp 𝕄) : bigSep Finset.univ Φ
    = iprop(Φ 0 ∗ (bigSep Finset.univ fun k : Fin 7 => Φ (iS k.val k.isLt)) ∗ bigSep Finset.univ fun k : Fin 7 => Φ (iR k.val k.isLt)) := by
  rw [fin7_eq, fin7_eq, bigSep_univ_eq_bigSepL [0, iS 0, iS 1, iS 2, iS 3, iS 4, iS 5, iS 6, iR 0, iR 1, iR 2, iR 3, iR 4, iR 5, iR 6] (by decide) (by decide) Φ]
  show iprop(Φ 0 ∗ Φ (iS 0) ∗ Φ (iS 1) ∗ Φ (iS 2) ∗ Φ (iS 3) ∗ Φ (iS 4) ∗ Φ (iS 5) ∗ Φ (iS 6) ∗ Φ (iR 0) ∗ Φ (iR 1) ∗ Φ (iR 2) ∗ Φ (iR 3) ∗ Φ (iR 4) ∗ Φ (iR 5) ∗ Φ (iR 6))
    = iprop(Φ 0 ∗ (Φ (iS 0) ∗ Φ (iS 1) ∗ Φ (iS 2) ∗ Φ (iS 3) ∗ Φ (iS 4) ∗ Φ (iS 5) ∗ Φ (iS 6)) ∗ Φ (iR 0) ∗ Φ (iR 1) ∗ Φ (iR 2) ∗ Φ (iR 3) ∗ Φ (iR 4) ∗ Φ (iR 5) ∗ Φ (iR 6))
  generalize Φ 0 = A
  generalize Φ (iS 0) = B0
  generalize Φ (iS 1) = B1
  generalize Φ (iS 2) = B2
  generalize Φ (iS 3) = B3
  generalize Φ (iS 4) = B4
  generalize Φ (iS 5) = B5
  generalize Φ (iS 6) = B6
  generalize Φ (iR 0) = B7
  generalize Φ (iR 1) = B8
  generalize Φ (iR 2) = B9
  generalize Φ (iR 3) = B10
  generalize Φ (iR 4) = B11
  generalize Φ (iR 5) = B12
  generalize Φ (iR 6) = B13
  refine equiv_iff.mp ⟨?_, ?_⟩
  · show (_ : sProp 𝕄) ⊢ _
    iintro ⟨A, B0, B1, B2, B3, B4, B5, B6, B7, B8, B9, B10, B11, B12, B13⟩
    sl_close
  · show (_ : sProp 𝕄) ⊢ _
    iintro ⟨A, ⟨B0, B1, B2, B3, B4, B5, B6⟩, B7, B8, B9, B10, B11, B12, B13⟩
    sl_close

/-! ## The duty tokens -/

/-- The tokens as minted: of device and number `k`, the barrier's duty `k`, the send cell's, the receive cell's. -/
def tokOf (x : Dev nD × (Fin 3 × Fin 7)) : GSem nD τ sig × ℕ × Fin 7 := match x.2.1 with
  | ⟨0, _⟩ => (barCell x.1, 0, x.2.2)
  | ⟨1, _⟩ => (sendCell x.1 x.2.2.val x.2.2.isLt, 0, 0)
  | ⟨2, _⟩ => (recvCell x.1 (pr x.1 x.2.2.val), 0, 0)

theorem tokOf_injective : Function.Injective (tokOf : Dev nD × (Fin 3 × Fin 7) → GSem nD τ sig × ℕ × Fin 7) := by
  rintro ⟨c, i, k⟩ ⟨c', i', k'⟩ h
  have h1 : c = c' := by
    have := congrArg (fun x : GSem nD τ sig × ℕ × Fin 7 => x.1.1.1) h
    match i, i' with
    | ⟨0, _⟩, ⟨0, _⟩ => exact this
    | ⟨0, _⟩, ⟨1, _⟩ => exact this
    | ⟨0, _⟩, ⟨2, _⟩ => exact this
    | ⟨1, _⟩, ⟨0, _⟩ => exact this
    | ⟨1, _⟩, ⟨1, _⟩ => exact this
    | ⟨1, _⟩, ⟨2, _⟩ => exact this
    | ⟨2, _⟩, ⟨0, _⟩ => exact this
    | ⟨2, _⟩, ⟨1, _⟩ => exact this
    | ⟨2, _⟩, ⟨2, _⟩ => exact this
  subst h1
  have h2 := congrArg (fun x : GSem nD τ sig × ℕ × Fin 7 => x.1.2) h
  match i, i' with
  | ⟨0, _⟩, ⟨0, _⟩ => have h3 : k = k' := congrArg (fun x : GSem nD τ sig × ℕ × Fin 7 => x.2.2) h; subst h3; rfl
  | ⟨0, _⟩, ⟨1, _⟩ => exact absurd h2.symm (send_ne_bar k'.val k'.isLt)
  | ⟨0, _⟩, ⟨2, _⟩ => exact absurd h2.symm (recv_ne_bar _)
  | ⟨1, _⟩, ⟨0, _⟩ => exact absurd h2 (send_ne_bar k.val k.isLt)
  | ⟨1, _⟩, ⟨1, _⟩ => have h3 : k = k' := Fin.ext (sS_inj h2); subst h3; rfl
  | ⟨1, _⟩, ⟨2, _⟩ => exact absurd h2 (send_ne_recv k.val k.isLt _)
  | ⟨2, _⟩, ⟨0, _⟩ => exact absurd h2 (recv_ne_bar _)
  | ⟨2, _⟩, ⟨1, _⟩ => exact absurd h2.symm (send_ne_recv k'.val k'.isLt _)
  | ⟨2, _⟩, ⟨2, _⟩ => have h3 : k = k' := Fin.ext (pr_inj c k.isLt k'.isLt (rS_inj h2)); subst h3; rfl

def exToks : Finset (GSem nD τ sig × ℕ × Fin 7) := Finset.univ.map ⟨tokOf, tokOf_injective⟩

abbrev tkB (x : Dev nD × Fin 7) : sProp 𝕄 := dutyTok ER (barCell x.1) 0 x.2
abbrev tkS (x : Dev nD × Fin 7) : sProp 𝕄 := dutyTok ER (sendCell x.1 x.2.val x.2.isLt) 0 (0 : Fin 7)
abbrev tkR (x : Dev nD × Fin 7) : sProp 𝕄 := dutyTok ER (recvCell x.1 (pr x.1 x.2.val)) 0 (0 : Fin 7)
/-- The tokens of device `c`'s own cells. -/
def toks (c : Dev nD) : sProp 𝕄 :=
  iprop((bigSep Finset.univ fun k : Fin 7 => tkB (F := F) (c, k)) ∗ (bigSep Finset.univ fun k : Fin 7 => tkS (F := F) (c, k)) ∗ bigSep Finset.univ fun k : Fin 7 => tkR (F := F) (c, k))
/-- The three tokens device `c` pays with in its exchange with `pr c k`. -/
def payTok (c : Dev nD) (k : Fin 7) : sProp 𝕄 :=
  iprop(dutyTok ER (barCell (pr c k.val)) 0 (⟨6 - k.val, by omega⟩ : Fin 7) ∗ dutyTok ER (recvCell (pr c k.val) c) 0 (0 : Fin 7) ∗ sendPack c k.val k.isLt)

/-- Device and number, seen from the other end. -/
def turn : Dev nD × Fin 7 ≃ Dev nD × Fin 7 where
  toFun x := (pr x.1 x.2.val, ⟨6 - x.2.val, by omega⟩)
  invFun x := (pr x.1 x.2.val, ⟨6 - x.2.val, by omega⟩)
  left_inv x := Prod.ext (pr_back x.1 x.2.val (6 - x.2.val) (by have := x.2.isLt; omega)) (Fin.ext (show 6 - (6 - x.2.val) = x.2.val by have := x.2.isLt; omega))
  right_inv x := Prod.ext (pr_back x.1 x.2.val (6 - x.2.val) (by have := x.2.isLt; omega)) (Fin.ext (show 6 - (6 - x.2.val) = x.2.val by have := x.2.isLt; omega))

theorem tkR_turn (x : Dev nD × Fin 7) : tkR (F := F) (turn x) = (dutyTok ER (recvCell (pr x.1 x.2.val) x.1) 0 (0 : Fin 7) : sProp 𝕄) :=
  congrArg (fun d => (dutyTok ER (recvCell (pr x.1 x.2.val) d) 0 (0 : Fin 7) : sProp 𝕄)) (pr_back x.1 x.2.val (6 - x.2.val) (by have := x.2.isLt; omega))

theorem toks_around : (bigSep Finset.univ fun c : Dev nD => (toks c : sProp 𝕄)) ⊢ bigSep Finset.univ fun c : Dev nD => bigSep Finset.univ fun k : Fin 7 => payTok c k := by
  unfold toks
  rw [bigSep_sep', bigSep_sep', ← bigSep_univ_prod (tkB (F := F)), ← bigSep_univ_prod (tkS (F := F)), ← bigSep_univ_prod (tkR (F := F)),
    bigSep_univ_equiv turn (tkB (F := F)), bigSep_univ_equiv turn (tkR (F := F)),
    ← bigSep_univ_prod (fun x : Dev nD × Fin 7 => (payTok x.1 x.2 : sProp 𝕄))]
  unfold payTok
  rw [bigSep_sep', bigSep_sep', bigSep_congr (s := Finset.univ) (fun (x : Dev nD × Fin 7) _ => tkR_turn x)]
  iintro ⟨H1, H2, H3⟩
  isplitl [H1]; · iexact H1
  isplitl [H3]; · iexact H3
  iexact H2

/-! ## What a device starts from -/

/-- Its exchange with `pr c k`: the invariants, its positions, the tokens it pays with. -/
def peerGhost (K : Dev nD × Fin 15 → ℕ) (c : Dev nD) (k : Fin 7) : sProp 𝕄 :=
  iprop(peerInv m K c k.val k.isLt ∗ (atPos ER (sendCell c k.val k.isLt) 0 ∅ 0 ∗ atPos ER (recvCell c (pr c k.val)) 0 ∅ 0) ∗ payTok c k)
/-- The counters of the semaphores no other device touches. -/
def localSems (c : Dev nD) : sProp 𝕄 :=
  iprop(semVal ((c : Thread nD τ), .dma (xS 0)) 0
    ∗ semVal ((c : Thread nD τ), .dma (xS 1)) 0
    ∗ semVal ((c : Thread nD τ), .dma (xS 2)) 0
    ∗ semVal ((c : Thread nD τ), .dma (xS 3)) 0
    ∗ semVal ((c : Thread nD τ), .dma (xS 4)) 0
    ∗ semVal ((c : Thread nD τ), .dma (xS 5)) 0
    ∗ semVal ((c : Thread nD τ), .dma (xS 6)) 0
    ∗ semVal ((c : Thread nD τ), .dma (xS 7)) 0
    ∗ semVal ((c : Thread nD τ), .dma (wS 0)) 0
    ∗ semVal ((c : Thread nD τ), .dma (wS 1)) 0
    ∗ semVal ((c : Thread nD τ), .dma (wS 2)) 0
    ∗ semVal ((c : Thread nD τ), .dma (wS 3)) 0
    ∗ semVal ((c : Thread nD τ), .dma (yS 0)) 0
    ∗ semVal ((c : Thread nD τ), .dma (yS 1)) 0
    ∗ semVal (recvCell c c) 0)
def ghost (K : Dev nD × Fin 15 → ℕ) (c : Dev nD) : sProp 𝕄 :=
  iprop(cellInv ER (exRd m) (K (c, 0)) (barCell c) ∗ atPos ER (barCell c) 0 ∅ 0 ∗ (bigSep Finset.univ fun k : Fin 7 => peerGhost m K c k) ∗ localSems c)

/-- What the launch element deals device `c`. -/
def G (c : Dev nD) : sProp 𝕄 :=
  iprop((bigSep Finset.univ fun j : Fin 15 => roundState ER (exRd m) (kcell (c, j)) 0)
    ∗ (bigSep Finset.univ fun j : Fin 15 => iprop(atPos ER (kcell (c, j)) 0 ∅ 0 ∗ reached ER (kcell (c, j)) 0)) ∗ toks c)
/-- What the global step makes of it. -/
def G' (c : Dev nD) : sProp 𝕄 := iprop(∃ K, ghost m K c)

theorem fin3_eq (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun j : Fin 15 => Φ (kcell (c, j)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_prod, fin3_eq]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores. -/
abbrev osem : Fin 29 → SemLoc sig := fun k => .dma ⟨k.val + 2, by have := k.isLt; show k.val + 2 < 31; omega⟩
theorem ownSemFacts : Pipeline.OwnSemFacts cfg0.spec osem := by decide
/-- The receive semaphore of slot `s`, by number. -/
abbrev oR (s : Dev nD) : Fin 29 := ⟨19 + s.val, by have : s.val < 8 := s.isLt; omega⟩
theorem osem_r (s : Dev nD) : osem (oR s) = .dma (rS s) := by revert s; decide

abbrev oList (c : Dev nD) : List (Fin 29) := [0, 1, 2, 3, 4, 5, 6, 7, 8, 9, 10, 11, 27, 28, oR c, 12, 13, 14, 15, 16, 17, 18, oR (pr c 0), oR (pr c 1), oR (pr c 2), oR (pr c 3), oR (pr c 4), oR (pr c 5), oR (pr c 6)]
theorem oList_all (c : Dev nD) : Finset.univ = (oList c).toFinset := by revert c; decide
theorem oList_nodup (c : Dev nD) : (oList c).Nodup := by revert c; decide

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (xS 0)) 0
      ∗ semVal ((c : Thread nD τ), .dma (xS 1)) 0
      ∗ semVal ((c : Thread nD τ), .dma (xS 2)) 0
      ∗ semVal ((c : Thread nD τ), .dma (xS 3)) 0
      ∗ semVal ((c : Thread nD τ), .dma (xS 4)) 0
      ∗ semVal ((c : Thread nD τ), .dma (xS 5)) 0
      ∗ semVal ((c : Thread nD τ), .dma (xS 6)) 0
      ∗ semVal ((c : Thread nD τ), .dma (xS 7)) 0
      ∗ semVal ((c : Thread nD τ), .dma (wS 0)) 0
      ∗ semVal ((c : Thread nD τ), .dma (wS 1)) 0
      ∗ semVal ((c : Thread nD τ), .dma (wS 2)) 0
      ∗ semVal ((c : Thread nD τ), .dma (wS 3)) 0
      ∗ semVal ((c : Thread nD τ), .dma (yS 0)) 0
      ∗ semVal ((c : Thread nD τ), .dma (yS 1)) 0
      ∗ semVal (recvCell c c) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (recvCell c (pr c 0)) 0
      ∗ semVal (recvCell c (pr c 1)) 0
      ∗ semVal (recvCell c (pr c 2)) 0
      ∗ semVal (recvCell c (pr c 3)) 0
      ∗ semVal (recvCell c (pr c 4)) 0
      ∗ semVal (recvCell c (pr c 5)) 0
      ∗ semVal (recvCell c (pr c 6)) 0) := by
  rw [Pipeline.ownSems0_eq_of_list c osem (oList c) (oList_all c) (oList_nodup c)]
  simp only [bigSepL_cons_cons, bigSepL_singleton, osem_r]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 15 => semVal (kcell (c, j)) 0) ∗ localSems c) : sProp 𝕄) := by
  rw [ownSems0_eq, unscopedSems0_eq, fin15_eq, fin7_eq, fin7_eq]
  simp only [kcell_bar, kcell_send, kcell_recv]
  unfold localSems
  iintro ⟨⟨X0, X1, X2, X3, X4, X5, X6, X7, W0, W1, W2, W3, Y0, Y1, RC, S0, S1, S2, S3, S4, S5, S6, R0, R1, R2, R3, R4, R5, R6⟩, HB⟩
  isplitr [X0 X1 X2 X3 X4 X5 X6 X7 W0 W1 W2 W3 Y0 Y1 RC]
  · isplitl [HB]; · iexact HB
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitl [R0]; · iexact R0
    isplitl [R1]; · iexact R1
    isplitl [R2]; · iexact R2
    isplitl [R3]; · iexact R3
    isplitl [R4]; · iexact R4
    isplitl [R5]; · iexact R5
    iexact R6
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [W0]; · iexact W0
    isplitl [W1]; · iexact W1
    isplitl [W2]; · iexact W2
    isplitl [W3]; · iexact W3
    isplitl [Y0]; · iexact Y0
    isplitl [Y1]; · iexact Y1
    iexact RC

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (exRd m) κ (kcell (c, j))))
          ∗ (bigSep Finset.univ fun j => iprop(atPos ER (kcell (c, j)) 0 ∅ 0 ∗ reached ER (kcell (c, j)) 0)) ∗ toks c ∗ localSems c) := by
  unfold G
  iintro ⟨Hos, Hus, Hst, Hat, Htok⟩
  ihave Hv := (sems0_split (F := F) c) $$ [Hos Hus]
  · isplitl [Hos] <;> iassumption
  icases Hv with ⟨Hv, Hl⟩
  imod (show iprop((bigSep Finset.univ fun j : Fin 15 => semVal (kcell (c, j)) 0) ∗ bigSep Finset.univ fun j : Fin 15 => roundState ER (exRd m) (kcell (c, j)) 0)
      ⊢ (|={Set.univ}=> bigSep Finset.univ fun j => iprop(∃ κ : ℕ, cellInv ER (exRd m) κ (kcell (c, j))) : sProp 𝕄) from by
        rw [← bigSep_sep']
        exact (bigSep_mono fun j _ => (Rounds.body_intro ER (exRd m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every cell's invariant, and that every cell is at round 0. -/
def records (K : Dev nD × Fin 15 → ℕ) : sProp 𝕄 :=
  iprop((bigSep Finset.univ fun cj : Dev nD × Fin 15 => cellInv ER (exRd m) (K cj) (kcell cj)) ∗ bigSep Finset.univ fun cj : Dev nD × Fin 15 => reached ER (kcell cj) 0)
instance records_persistent (K : Dev nD × Fin 15 → ℕ) : BI.Persistent (records m K) := by unfold records; infer_instance

theorem one_of {I : Type} [Fintype I] [DecidableEq I] (Φ : I → sProp 𝕄) (i : I) : bigSep Finset.univ Φ ⊢ Φ i := bigSep_elim (Finset.mem_univ i)
theorem inv_at (K : Dev nD × Fin 15 → ℕ) (cj : Dev nD × Fin 15) (g : GSem nD τ sig) (h : kcell cj = g) : records m K ⊢ (cellInv ER (exRd m) (K cj) g : sProp 𝕄) := by
  subst h
  unfold records
  iintro ⟨H, -⟩
  iapply (one_of (fun cj : Dev nD × Fin 15 => (cellInv ER (exRd m) (K cj) (kcell cj) : sProp 𝕄)) cj)
  iexact H
theorem reached_at (K : Dev nD × Fin 15 → ℕ) (cj : Dev nD × Fin 15) (g : GSem nD τ sig) (h : kcell cj = g) : records m K ⊢ (reached ER g 0 : sProp 𝕄) := by
  subst h
  unfold records
  iintro ⟨-, H⟩
  iapply (one_of (fun cj : Dev nD × Fin 15 => (reached ER (kcell cj) 0 : sProp 𝕄)) cj)
  iexact H

/-- What stays with device `c` of its exchange with `pr c k`. -/
def peerLin (c : Dev nD) (k : Fin 7) : sProp 𝕄 :=
  iprop((atPos ER (sendCell c k.val k.isLt) 0 ∅ 0 ∗ atPos ER (recvCell c (pr c k.val)) 0 ∅ 0) ∗ payTok c k)
theorem kcell_back (c : Dev nD) (k : ℕ) (h : k < 7) : kcell (pr c k, iR (6 - k) (by omega)) = recvCell (pr c k) c := by
  rw [kcell_recv, pr_back c k (6 - k) (by omega)]
theorem peer_intro (K : Dev nD × Fin 15 → ℕ) (c : Dev nD) (k : Fin 7) : iprop(records m K ∗ peerLin c k) ⊢ peerGhost m K c k := by
  unfold peerLin peerGhost peerInv
  iintro ⟨#H, Hl⟩
  isplitr
  · isplitr; · iapply (inv_at m K (pr c k.val, 0) _ (kcell_bar _)); iexact H
    isplitr; · iapply (inv_at m K (c, iS k.val k.isLt) _ (kcell_send c k.val k.isLt)); iexact H
    isplitr; · iapply (inv_at m K _ _ (kcell_back c k.val k.isLt)); iexact H
    isplitr; · iapply (inv_at m K (c, iR k.val k.isLt) _ (kcell_recv c k.val k.isLt)); iexact H
    isplitr; · iapply (reached_at m K (pr c k.val, 0) _ (kcell_bar _)); iexact H
    isplitr; · iapply (reached_at m K (c, iS k.val k.isLt) _ (kcell_send c k.val k.isLt)); iexact H
    iapply (reached_at m K (c, iR k.val k.isLt) _ (kcell_recv c k.val k.isLt)); iexact H
  · iexact Hl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

def linear (c : Dev nD) : sProp 𝕄 :=
  iprop((bigSep Finset.univ fun j : Fin 15 => (atPos ER (kcell (c, j)) 0 ∅ 0 : sProp 𝕄)) ∗ (bigSep Finset.univ fun k : Fin 7 => payTok c k) ∗ localSems c)
theorem ghost_intro (K : Dev nD × Fin 15 → ℕ) (c : Dev nD) : iprop(records m K ∗ linear c) ⊢ G' m c := by
  unfold linear G' ghost
  rw [fin15_eq]
  simp only [kcell_bar, kcell_send, kcell_recv]
  iintro ⟨#H, ⟨HaB, HaS, HaR⟩, Htk, Hl⟩
  iexists K
  isplitr; · iapply (inv_at m K (c, 0) _ (kcell_bar c)); iexact H
  isplitl [HaB]; · iexact HaB
  isplitr [Hl]
  · iapply (with_persistent (R := records m K) fun k _ => peer_intro m K c k)
    isplitr; · iexact H
    unfold peerLin
    rw [bigSep_sep', bigSep_sep']
    isplitr [Htk]
    · isplitl [HaS] <;> iassumption
    iexact Htk
  iexact Hl

theorem regroup :
    (bigSep Finset.univ fun c : Dev nD => iprop((bigSep Finset.univ fun j => iprop(∃ κ : ℕ, cellInv ER (exRd m) κ (kcell (c, j))))
          ∗ (bigSep Finset.univ fun j => iprop(atPos ER (kcell (c, j)) 0 ∅ 0 ∗ reached ER (kcell (c, j)) 0)) ∗ toks c ∗ localSems c) : sProp 𝕄)
      ⊢ bigSep Finset.univ (G' m) := by
  rw [bigSep_sep', bigSep_sep', bigSep_sep', ← bigSep_univ_prod (fun cj : Dev nD × Fin 15 => iprop(∃ κ : ℕ, cellInv ER (exRd m) κ (kcell cj))),
    bigSep_congr (s := Finset.univ) (fun (c : Dev nD) _ => bigSep_sep' Finset.univ (fun j : Fin 15 => (atPos ER (kcell (c, j)) 0 ∅ 0 : sProp 𝕄)) (fun j => reached ER (kcell (c, j)) 0)),
    bigSep_sep', ← bigSep_univ_prod (fun cj : Dev nD × Fin 15 => (reached ER (kcell cj) 0 : sProp 𝕄))]
  iintro ⟨HI, ⟨Hat, #HR⟩, Htok, Hl⟩
  ihave HK := (BI.bigSep_exists_pi Finset.univ (fun (cj : Dev nD × Fin 15) (κ : ℕ) => (cellInv ER (exRd m) κ (kcell cj) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b s t : Dev nD} : Iff (recvCell a s = recvCell b t) (a = b ∧ s = t) :=
  ⟨fun h => ⟨congrArg (fun g : GSem nD τ sig => g.1.1) h, rS_inj (congrArg Prod.snd h)⟩, fun h => by obtain ⟨rfl, rfl⟩ := h; rfl⟩

theorem tally_sum_apply {ι : Type} (S : Finset ι) (f : ι → CellTallies nD τ sig Unit) (g : GSem nD τ sig) (u : Unit) :
    (∑ j ∈ S, f j) g u = ∑ j ∈ S, f j g u := by
  rw [Finset.sum_apply, Finsupp.finset_sum_apply]

/-- What device `d` owes device `c`'s barrier cell: a unit for each of its signals that goes there. -/
theorem owed_bar (d c : Dev nD) : O₀ d (barCell c) () = ∑ j ∈ Finset.Ico 0 7, if c = pr d j then 1 else 0 := by
  show oweB d 0 (barCell c) () = _
  unfold oweB oweR
  rw [Pi.add_apply, Finsupp.add_apply, tally_sum_apply, tally_sum_apply,
    Finset.sum_eq_zero fun j _ => by rw [tallyAt_ne_cell (fun h => recv_ne_bar _ (congrArg Prod.snd h).symm), Finsupp.zero_apply], Nat.zero_add]
  refine Finset.sum_congr rfl fun j _ => ?_
  rw [tallyAt_apply]
  by_cases h : c = pr d j
  · rw [if_pos ⟨bar_eq_iff.mpr h, rfl⟩, if_pos h]
  · rw [if_neg fun h' => h (bar_eq_iff.mp h'.1), if_neg h]
/-- What it owes the receive cell of slot `s` there. -/
theorem owed_recv (d c s : Dev nD) : O₀ d (recvCell c s) () = (∑ j ∈ Finset.Ico 0 7, if c = pr d j ∧ s = d then 1 else 0) * N := by
  show oweB d 0 (recvCell c s) () = _
  unfold oweB oweR
  rw [Pi.add_apply, Finsupp.add_apply, tally_sum_apply, tally_sum_apply]
  have h0 : ∑ j ∈ Finset.Ico 0 7, (tallyAt (barCell (pr d j)) () 1 : CellTallies nD τ sig Unit) (recvCell c s) () = 0 :=
    Finset.sum_eq_zero fun j _ => by rw [tallyAt_ne_cell (fun h => recv_ne_bar _ (congrArg Prod.snd h)), Finsupp.zero_apply]
  rw [h0, Nat.add_zero, Finset.sum_mul]
  refine Finset.sum_congr rfl fun j _ => ?_
  rw [tallyAt_apply]
  by_cases h : c = pr d j ∧ s = d
  · rw [if_pos ⟨recv_eq_iff.mpr h, rfl⟩, if_pos h, Nat.one_mul]
  · rw [if_neg fun h' => h (recv_eq_iff.mp h'.1), if_neg h, Nat.zero_mul]

theorem count_bar (c : Dev nD) : (∑ d : Dev nD, ∑ j ∈ Finset.Ico 0 7, if c = pr d j then 1 else 0) = 7 := by revert c; decide
theorem count_recv (c : Dev nD) (k : Fin 7) : (∑ d : Dev nD, ∑ j ∈ Finset.Ico 0 7, if c = pr d j ∧ pr c k.val = d then 1 else 0) = 1 := by revert c k; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]
theorem launch_recv (c : Dev nD) (k : Fin 7) :
    tallyOn (recvCell c (pr c k.val)) (launchCredit (Pipeline.owing O₀) 0 (recvCell c (pr c k.val))) = (tallyAt (recvCell c (pr c k.val)) () N : CellTallies nD τ sig Unit) := by
  unfold tallyAt; refine congrArg _ (Finsupp.ext fun u => ?_); cases u
  rw [Pipeline.launchCredit_owing, Finsupp.single_eq_same, Finset.sum_congr rfl fun d _ => owed_recv d c (pr c k.val), ← Finset.sum_mul, count_recv, Nat.one_mul]

/-- The credits device `c` starts with: its barrier's seven units, and each receive cell's. -/
theorem creds (c : Dev nD) :
    (Pipeline.launchCred O₀ c : sProp 𝕄) ⊢ iprop(cred (tallyAt (barCell c) () 7) ∗ bigSep Finset.univ fun k : Fin 7 => cred (tallyAt (recvCell c (pr c k.val)) () N)) := by
  unfold Pipeline.launchCred
  rw [bigSep_univ_at _ (SemLoc.reg barS), launch_bar]
  refine sep_mono_right ?_
  rw [bigSep_congr (s := Finset.univ) fun (k : Fin 7) _ => congrArg (fun t => (cred t : sProp 𝕄)) (launch_recv c k).symm,
    ← bigSep_image_of_injOn (s := (Finset.univ : Finset (Fin 7))) (f := fun k : Fin 7 => (SemLoc.dma (rS (pr c k.val)) : SemLoc sig))
      (fun a _ b _ e => Fin.ext (pr_inj c a.isLt b.isLt (rS_inj e)))
      (fun sm => (cred (tallyOn ((c : Thread nD τ), sm) (launchCredit (Pipeline.owing O₀) 0 ((c : Thread nD τ), sm))) : sProp 𝕄))]
  refine bigSep_subset fun sm hsm => ?_
  obtain ⟨k, -, rfl⟩ := Finset.mem_image.mp hsm
  exact Finset.mem_erase.mpr ⟨recv_ne_bar _, Finset.mem_univ _⟩

end Cert.KernelIdeal.Proto

end
-- ==== Proof.Launch.lean ====
/-
# 01_k — `Launch`: every device's program, from any memory, to its end

The launch theorem of the pipeline library (`θ_run_region_owing_glob_pf`): what it hands a device is cut into what the
run takes, what the run leaves is joined into what it asks for, and what a final memory holds is read off.
-/
module

public import proofs.«01_k».proof.Proof.Body
public import proofs.«01_k».proof.Proof.Deal
public import Idealize.ShloMosaic.Lib.Pipeline.CollectiveSegs

@[expose] public section

set_option maxRecDepth 16384

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device keeps, from the launch's pieces and back -/

/-- The counters of `kept`: those of the semaphores no other device touches, without the receive semaphore of the device's own slot. -/
def keptSems (c : Dev nD) : sProp 𝕄 :=
  iprop(semVal ((c : Thread nD τ), .dma (xS 0)) 0
    ∗ semVal ((c : Thread nD τ), .dma (xS 1)) 0
    ∗ semVal ((c : Thread nD τ), .dma (xS 2)) 0
    ∗ semVal ((c : Thread nD τ), .dma (xS 3)) 0
    ∗ semVal ((c : Thread nD τ), .dma (xS 4)) 0
    ∗ semVal ((c : Thread nD τ), .dma (xS 5)) 0
    ∗ semVal ((c : Thread nD τ), .dma (xS 6)) 0
    ∗ semVal ((c : Thread nD τ), .dma (xS 7)) 0
    ∗ semVal ((c : Thread nD τ), .dma (wS 0)) 0
    ∗ semVal ((c : Thread nD τ), .dma (wS 1)) 0
    ∗ semVal ((c : Thread nD τ), .dma (wS 2)) 0
    ∗ semVal ((c : Thread nD τ), .dma (wS 3)) 0
    ∗ semVal ((c : Thread nD τ), .dma (yS 0)) 0
    ∗ semVal ((c : Thread nD τ), .dma (yS 1)) 0)
theorem localSems_cut (c : Dev nD) : (localSems c : sProp 𝕄) ⊢ iprop(keptSems c ∗ semVal (recvCell c c) 0) := by
  unfold localSems keptSems
  iintro ⟨Z0, Z1, Z2, Z3, Z4, Z5, Z6, Z7, Z8, Z9, Z10, Z11, Z12, Z13, H⟩
  isplitr [H]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    iexact Z13
  iexact H

abbrev stg2 (c : Dev nD) : sProp 𝕄 := ((c : Thread nD τ).loc cc0_stg0_0) ↦{fullShare} (m ((c : Thread nD τ).loc main_arg2) : Buf (Elt F) ((c : Thread nD τ).loc cc0_stg0_0))
abbrev stg3 (c : Dev nD) : sProp 𝕄 := ((c : Thread nD τ).loc cc0_stg1_0) ↦{fullShare} (m ((c : Thread nD τ).loc main_arg3) : Buf (Elt F) ((c : Thread nD τ).loc cc0_stg1_0))

theorem kept_in (c : Dev nD) : iprop(xUsed m c ∗ wUsed m c ∗ xSlots c ∗ wSlots c ∗ (∃ f, slotPts c c f) ∗ ySlots c ∗ stg2 m c ∗ stg3 m c ∗ keptSems c) ⊢ kept m c := by
  unfold xUsed wUsed xSlots wSlots ySlots keptSems kept
  iintro ⟨⟨A0, A1, A2, A3, A4, A5, A6, A7⟩, ⟨B0, B1, B2, B3⟩, ⟨X0, X1, X2, X3, X4, X5, X6, X7⟩, ⟨W0, W1, W2, W3⟩, RR, ⟨Y0, Y1⟩, G2, G3, Z0, Z1, Z2, Z3, Z4, Z5, Z6, Z7, Z8, Z9, Z10, Z11, Z12, Z13⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0]; · iexact B0
  isplitl [B1]; · iexact B1
  isplitl [B2]; · iexact B2
  isplitl [B3]; · iexact B3
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [W0]; · iexact W0
  isplitl [W1]; · iexact W1
  isplitl [W2]; · iexact W2
  isplitl [W3]; · iexact W3
  isplitl [RR]; · iexact RR
  isplitl [Y0]; · iexact Y0
  isplitl [Y1]; · iexact Y1
  isplitl [G2]; · iexact G2
  isplitl [G3]; · iexact G3
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  iexact Z13
theorem kept_out (c : Dev nD) : kept m c ⊢ iprop(xUsed m c ∗ wUsed m c ∗ xSlots c ∗ wSlots c ∗ (∃ f, slotPts c c f) ∗ ySlots c ∗ stg2 m c ∗ stg3 m c ∗ keptSems c) := by
  unfold xUsed wUsed xSlots wSlots ySlots keptSems kept
  iintro ⟨A0, A1, A2, A3, A4, A5, A6, A7, B0, B1, B2, B3, X0, X1, X2, X3, X4, X5, X6, X7, W0, W1, W2, W3, RR, Y0, Y1, G2, G3, Z0, Z1, Z2, Z3, Z4, Z5, Z6, Z7, Z8, Z9, Z10, Z11, Z12, Z13⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3]
  · isplitl [B0]; · iexact B0
    isplitl [B1]; · iexact B1
    isplitl [B2]; · iexact B2
    iexact B3
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [W0 W1 W2 W3]
  · isplitl [W0]; · iexact W0
    isplitl [W1]; · iexact W1
    isplitl [W2]; · iexact W2
    iexact W3
  isplitl [RR]; · iexact RR
  isplitl [Y0 Y1]
  · isplitl [Y0] <;> iassumption
  isplitl [G2]; · iexact G2
  isplitl [G3]; · iexact G3
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  iexact Z13

/-! ## An exchange's holdings -/

theorem peers_eq (K : Dev nD × Fin 15 → ℕ) (c : Dev nD) : (bigSep Finset.univ fun k : Fin 7 => peerGhost m K c k)
    = iprop(peerGhost m K c ⟨0, by decide⟩ ∗ peerGhost m K c ⟨1, by decide⟩ ∗ peerGhost m K c ⟨2, by decide⟩ ∗ peerGhost m K c ⟨3, by decide⟩ ∗ peerGhost m K c ⟨4, by decide⟩ ∗ peerGhost m K c ⟨5, by decide⟩ ∗ peerGhost m K c ⟨6, by decide⟩) := fin7_eq _
theorem creds_eq (c : Dev nD) : (bigSep Finset.univ fun k : Fin 7 => (cred (tallyAt (recvCell c (pr c k.val)) () N) : sProp 𝕄))
    = iprop(cred (tallyAt (recvCell c (pr c 0)) () N) ∗ cred (tallyAt (recvCell c (pr c 1)) () N) ∗ cred (tallyAt (recvCell c (pr c 2)) () N) ∗ cred (tallyAt (recvCell c (pr c 3)) () N) ∗ cred (tallyAt (recvCell c (pr c 4)) () N) ∗ cred (tallyAt (recvCell c (pr c 5)) () N) ∗ cred (tallyAt (recvCell c (pr c 6)) () N)) := fin7_eq _

theorem peer_in (K : Dev nD × Fin 15 → ℕ) (c : Dev nD) (k : ℕ) (h : k < 7) :
    iprop(peerGhost m K c ⟨k, h⟩ ∗ cred (tallyAt (recvCell c (pr c k)) () N)
        ∗ (∃ f, (sSl k h).view.loc (c : Thread nD τ) ↦[(sSl k h).view.set]{fullShare} f) ∗ (∃ f, slotPts c (pr c k) f))
      ⊢ iprop(peerInv m K c k h ∗ peerHeld c k h) := by
  unfold peerGhost payTok peerHeld
  iintro ⟨⟨HI, ⟨HaS, HaR⟩, HtB, HtR, HtS⟩, Hc, Hs, Hr⟩
  isplitl [HI]; · iexact HI
  isplitl [HaS]; · iexact HaS
  isplitl [HaR]; · iexact HaR
  isplitl [HtB]; · iexact HtB
  isplitl [HtR]; · iexact HtR
  isplitl [HtS]; · iexact HtS
  isplitl [Hc]; · iexact Hc
  isplitl [Hs]; · iexact Hs
  iexact Hr

/-! ## Into the run and out of it -/

/-- The device's scratch buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))
/-- What the run does not take. -/
def aside (c : Dev nD) : sProp 𝕄 := iprop(xRest m c ∗ wRest m c ∗ semVal (recvCell c c) 0)

theorem enter (K : Dev nD × Fin 15 → ℕ) (c : Dev nD) (W : Waits sig Unit) (f : Buf (Elt F) ((c : Thread nD τ).loc main_v1)) :
    iprop((ghost m K c ∗ (cred (tallyAt (barCell c) () 7) ∗ bigSep Finset.univ fun k : Fin 7 => cred (tallyAt (recvCell c (pr c k.val)) () N)) ∗ levAts L lv
        ∗ (((c : Thread nD τ).loc main_arg0) ↦{fullShare} m ((c : Thread nD τ).loc main_arg0)) ∗ (((c : Thread nD τ).loc main_arg1) ↦{fullShare} m ((c : Thread nD τ).loc main_arg1))
        ∗ (((c : Thread nD τ).loc main_v1) ↦{fullShare} f)) ∗ scratch c ∗ stg2 m c ∗ stg3 m c ∗ owes (c : Thread nD τ) (O₀ c) W)
      ⊢ iprop(runPre m K c W ∗ aside m c) := by
  unfold ghost scratch
  rw [peers_eq, creds_eq]
  iintro ⟨⟨⟨HIb, HaB, ⟨P0, P1, P2, P3, P4, P5, P6⟩, Hl⟩, ⟨HcB, C0, C1, C2, C3, C4, C5, C6⟩, Hlev, H0, H1, Hv⟩, ⟨E0, E1, E2, E3, E4⟩, G2, G3, HO⟩
  ihave E0 := (x_cut (F := F) c) $$ E0
  ihave E1 := (w_cut (F := F) c) $$ E1
  ihave E2 := (s_cut (F := F) c) $$ E2
  ihave E3 := (r_cut (F := F) c) $$ E3
  ihave E4 := (y_cut (F := F) c) $$ E4
  ihave H0 := (x_toks m c) $$ H0
  ihave H1 := (w_toks m c) $$ H1
  ihave Hl := (localSems_cut (F := F) c) $$ Hl
  ihave Hv := (Entails.of_eq (out_eq c f)) $$ Hv
  unfold sSlots rSlots
  icases E2 with ⟨S0, S1, S2, S3, S4, S5, S6⟩
  icases E3 with ⟨RR, R0, R1, R2, R3, R4, R5, R6⟩
  icases H0 with ⟨HxU, HxR⟩
  icases H1 with ⟨HwU, HwR⟩
  icases Hl with ⟨HkS, HrS⟩
  icases Hv with ⟨Hlo, Hhi⟩
  ihave Q0 := (peer_in m K c 0 (by decide)) $$ [P0 C0 S0 R0]
  · isplitl [P0]; · iexact P0
    isplitl [C0]; · iexact C0
    isplitl [S0] <;> iassumption
  icases Q0 with ⟨I0, D0⟩
  ihave Q1 := (peer_in m K c 1 (by decide)) $$ [P1 C1 S1 R1]
  · isplitl [P1]; · iexact P1
    isplitl [C1]; · iexact C1
    isplitl [S1] <;> iassumption
  icases Q1 with ⟨I1, D1⟩
  ihave Q2 := (peer_in m K c 2 (by decide)) $$ [P2 C2 S2 R2]
  · isplitl [P2]; · iexact P2
    isplitl [C2]; · iexact C2
    isplitl [S2] <;> iassumption
  icases Q2 with ⟨I2, D2⟩
  ihave Q3 := (peer_in m K c 3 (by decide)) $$ [P3 C3 S3 R3]
  · isplitl [P3]; · iexact P3
    isplitl [C3]; · iexact C3
    isplitl [S3] <;> iassumption
  icases Q3 with ⟨I3, D3⟩
  ihave Q4 := (peer_in m K c 4 (by decide)) $$ [P4 C4 S4 R4]
  · isplitl [P4]; · iexact P4
    isplitl [C4]; · iexact C4
    isplitl [S4] <;> iassumption
  icases Q4 with ⟨I4, D4⟩
  ihave Q5 := (peer_in m K c 5 (by decide)) $$ [P5 C5 S5 R5]
  · isplitl [P5]; · iexact P5
    isplitl [C5]; · iexact C5
    isplitl [S5] <;> iassumption
  icases Q5 with ⟨I5, D5⟩
  ihave Q6 := (peer_in m K c 6 (by decide)) $$ [P6 C6 S6 R6]
  · isplitl [P6]; · iexact P6
    isplitl [C6]; · iexact C6
    isplitl [S6] <;> iassumption
  icases Q6 with ⟨I6, D6⟩
  ihave Hk := (kept_in m c) $$ [HxU HwU E0 E1 RR E4 G2 G3 HkS]
  · isplitl [HxU]; · iexact HxU
    isplitl [HwU]; · iexact HwU
    isplitl [E0]; · iexact E0
    isplitl [E1]; · iexact E1
    isplitl [RR]; · iexact RR
    isplitl [E4]; · iexact E4
    isplitl [G2]; · iexact G2
    isplitl [G3]; · iexact G3
    iexact HkS
  unfold runPre aside
  isplitr [HxR HwR HrS]
  · isplitl [HIb]; · iexact HIb
    isplitl [HaB]; · iexact HaB
    isplitl [HcB]; · iexact HcB
    isplitl [Hlev]; · iexact Hlev
    isplitl [I0]; · iexact I0
    isplitl [D0]; · iexact D0
    isplitl [I1]; · iexact I1
    isplitl [D1]; · iexact D1
    isplitl [I2]; · iexact I2
    isplitl [D2]; · iexact D2
    isplitl [I3]; · iexact I3
    isplitl [D3]; · iexact D3
    isplitl [I4]; · iexact I4
    isplitl [D4]; · iexact D4
    isplitl [I5]; · iexact I5
    isplitl [D5]; · iexact D5
    isplitl [I6]; · iexact I6
    isplitl [D6]; · iexact D6
    isplitl [Hk]; · iexact Hk
    isplitl [Hlo]; · (iexists f; iexact Hlo)
    isplitl [Hhi]; · (iexists f; iexact Hhi)
    iexact HO
  · isplitl [HxR]; · iexact HxR
    isplitl [HwR]; · iexact HwR
    iexact HrS

/-- What the device ends with. -/
def ends (c : Dev nD) : sProp 𝕄 :=
  iprop((unscopedSems0 c
      ∗ (((c : Thread nD τ).loc main_arg0) ↦{fullShare} m ((c : Thread nD τ).loc main_arg0)) ∗ (((c : Thread nD τ).loc main_arg1) ↦{fullShare} m ((c : Thread nD τ).loc main_arg1))
      ∗ (((c : Thread nD τ).loc main_v1) ↦{fullShare} outV m c))
    ∗ Pipeline.ownSems0 (Ix := Unit) (Name := ℕ) (U := UU) (Lvl := ℕ) (Val := Elt F) (τ := τ) osem c ∗ scratch c)

theorem leave (c : Dev nD) : iprop(runPost m c ∗ aside m c) ⊢ iprop(ends m c ∗ stg2 m c ∗ stg3 m c ∗ ∃ W' : Waits sig Unit, owes (c : Thread nD τ) 0 W') := by
  unfold runPost aside peerDone ends scratch
  rw [unscopedSems0_eq, ownSems0_eq, out_eq]
  iintro ⟨⟨HzB, ⟨s0, r0, S0, R0⟩, ⟨s1, r1, S1, R1⟩, ⟨s2, r2, S2, R2⟩, ⟨s3, r3, S3, R3⟩, ⟨s4, r4, S4, R4⟩, ⟨s5, r5, S5, R5⟩, ⟨s6, r6, S6, R6⟩, Hk, Hlo, Hhi, HO⟩, HxR, HwR, HrS⟩
  ihave Hk := (kept_out m c) $$ Hk
  icases Hk with ⟨HxU, HwU, E0, E1, RR, E4, G2, G3, HkS⟩
  unfold keptSems
  icases HkS with ⟨Z0, Z1, Z2, Z3, Z4, Z5, Z6, Z7, Z8, Z9, Z10, Z11, Z12, Z13⟩
  ihave E0 := (x_join (F := F) c) $$ E0
  ihave E1 := (w_join (F := F) c) $$ E1
  ihave E4 := (y_join (F := F) c) $$ E4
  ihave E2 := (s_join (F := F) c) $$ [S0 S1 S2 S3 S4 S5 S6]
  · unfold sSlots
    isplitl [S0]; · iexact S0
    isplitl [S1]; · iexact S1
    isplitl [S2]; · iexact S2
    isplitl [S3]; · iexact S3
    isplitl [S4]; · iexact S4
    isplitl [S5]; · iexact S5
    iexact S6
  ihave E3 := (r_join (F := F) c) $$ [RR R0 R1 R2 R3 R4 R5 R6]
  · unfold rSlots
    isplitl [RR]; · iexact RR
    isplitl [R0]; · iexact R0
    isplitl [R1]; · iexact R1
    isplitl [R2]; · iexact R2
    isplitl [R3]; · iexact R3
    isplitl [R4]; · iexact R4
    isplitl [R5]; · iexact R5
    iexact R6
  ihave H0 := (x_whole m c) $$ [HxU HxR]
  · isplitl [HxU] <;> iassumption
  ihave H1 := (w_whole m c) $$ [HwU HwR]
  · isplitl [HwU] <;> iassumption
  isplitr [G2 G3 HO]
  · isplitl [HzB H0 H1 Hlo Hhi]
    · isplitl [HzB]; · iexact HzB
      isplitl [H0]; · iexact H0
      isplitl [H1]; · iexact H1
      isplitl [Hlo]; · iexact Hlo
      iexact Hhi
    isplitr [E0 E1 E2 E3 E4]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [HrS]; · iexact HrS
      isplitl [s0]; · iexact s0
      isplitl [s1]; · iexact s1
      isplitl [s2]; · iexact s2
      isplitl [s3]; · iexact s3
      isplitl [s4]; · iexact s4
      isplitl [s5]; · iexact s5
      isplitl [s6]; · iexact s6
      isplitl [r0]; · iexact r0
      isplitl [r1]; · iexact r1
      isplitl [r2]; · iexact r2
      isplitl [r3]; · iexact r3
      isplitl [r4]; · iexact r4
      isplitl [r5]; · iexact r5
      iexact r6
    · isplitl [E0]; · iexact E0
      isplitl [E1]; · iexact E1
      isplitl [E2]; · iexact E2
      isplitl [E3]; · iexact E3
      iexact E4
  · isplitl [G2]; · iexact G2
    isplitl [G3]; · iexact G3
    iexact HO

/-! ## The pipeline's proof data -/

def start (c : Dev nD) : sProp 𝕄 :=
  iprop((∃ K, ghost m K c) ∗ (cred (tallyAt (barCell c) () 7) ∗ bigSep Finset.univ fun k : Fin 7 => cred (tallyAt (recvCell c (pr c k.val)) () N)) ∗ levAts L lv
    ∗ (((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1) ↦{fullShare} m ((c : Thread nD τ).loc main_v1)))
def Φ₀ (c : Dev nD) : sProp 𝕄 := iprop(start m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => m ((c : Thread nD τ).loc main_arg2)
    | ⟨1, _⟩ => m ((c : Thread nD τ).loc main_arg3)
  Φ t := match t with
    | ⟨0, _⟩ => Φ₀ m c
    | ⟨_ + 1, _⟩ => ends m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A scale's array has one element, so its one block is the array. -/
theorem one_elt {e : EltTy} (f : (i : S1.Idx) → Elt F e) (g : S1.Idx → S1.Idx) : (fun i => f (g i)) = f :=
  funext fun i => congrArg f (funext fun a => match a with | ⟨0, _⟩ => Subsingleton.elim (α := Fin 1) _ _)
theorem before_0 (c : Dev nD) (d) : (dats m ρ 0 c).before (0 : Fin 2) t₀ d = m ((c : Thread nD τ).loc main_arg2) := by
  unfold Dat.before; rw [if_pos (fetch_0 t₀)]
  exact one_elt (e := .f32) (m ((c : Thread nD τ).loc main_arg2)) _
theorem before_1 (c : Dev nD) (d) : (dats m ρ 0 c).before (1 : Fin 2) t₀ d = m ((c : Thread nD τ).loc main_arg3) := by
  unfold Dat.before; rw [if_pos (fetch_1 t₀)]
  exact one_elt (e := .f32) (m ((c : Thread nD τ).loc main_arg3)) _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(ends m c ∗ (dats m ρ 0 c).owesAt () t₀.succ ∗ stg c cc0_stg0_0 (m ((c : Thread nD τ).loc main_arg2)) ∗ stg c cc0_stg1_0 (m ((c : Thread nD τ).loc main_arg3)))

theorem sound_body (c : Dev nD) : bodyPre m ρ c ⊢ wp frame (wpE (defs₀ (F := F)) 𝒱₀ c none) Set.univ bodyAt (fun _ => bodyPost m ρ c) := by
  unfold bodyPre Φ₀ start
  iintro ⟨⟨⟨⟨%K, Hg⟩, Hrest⟩, Hscr⟩, Ho, ⟨%d0, %g0, %hg0, G2⟩, ⟨%d1, %g1, %hg1, G3⟩⟩
  have h2 : g0 = m ((c : Thread nD τ).loc main_arg2) := hg0.trans (before_0 m ρ c d0)
  have h3 : g1 = m ((c : Thread nD τ).loc main_arg3) := hg1.trans (before_1 m ρ c d1)
  subst h2
  subst h3
  unfold Dat.owesAt Pipeline.owesWithin
  icases Ho with ⟨%W, %hW, HO⟩
  rw [show (dats m ρ 0 c).owed t₀.castSucc = O₀ c from rfl]
  ihave Hin := (enter m K c W (m ((c : Thread nD τ).loc main_v1))) $$ [Hg Hrest Hscr G2 G3 HO]
  · isplitl [Hg Hrest]
    · isplitl [Hg] <;> iassumption
    isplitl [Hscr]; · iexact Hscr
    isplitl [G2]; · iexact G2
    isplitl [G3]; · iexact G3
    iexact HO
  icases Hin with ⟨Hpre, Has⟩
  iapply (run m K c W)
  isplitl [Hpre]; · iexact Hpre
  iintro Hpost
  ihave Hout := (leave m c) $$ [Hpost Has]
  · isplitl [Hpost] <;> iassumption
  icases Hout with ⟨He, G2, G3, ⟨%W', HO⟩⟩
  unfold bodyPost Dat.owesAt Pipeline.owesWithin
  rw [show (dats m ρ 0 c).owed t₀.succ = 0 from rfl]
  isplitl [He]; · iexact He
  isplitl [HO]
  · iexists W'
    isplitr; · ipureintro; exact fun _ _ => Or.inl trivial
    iexact HO
  isplitl [G2]
  · iexists _; isplitr; · (ipureintro; rfl)
    iexact G2
  iexists _; isplitr; · (ipureintro; rfl)
  iexact G3

/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch theorem's conditions -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf exCells exToks, 1))
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem rest_eq (c : Dev nD) : (Pipeline.unscopedRestP (Ix := Unit) (Name := ℕ) (U := UU) (Lvl := ℕ) Pipeline.Prefetch.none cfg0.spec c (fun b => m ((c : Thread nD τ).loc b)) : sProp 𝕄)
    = iprop((((c : Thread nD τ).loc main_arg0) ↦{fullShare} m ((c : Thread nD τ).loc main_arg0)) ∗ (((c : Thread nD τ).loc main_arg1) ↦{fullShare} m ((c : Thread nD τ).loc main_arg1))
      ∗ (((c : Thread nD τ).loc main_v1) ↦{fullShare} m ((c : Thread nD τ).loc main_v1))) :=
  Pipeline.unscopedRestP_eq_of_list (win := cfg0.spec) (c := c) (pre := Pipeline.Prefetch.none) (V := fun b => m ((c : Thread nD τ).loc b)) (l := [main_arg0, main_arg1, main_v1]) (by decide) (by decide)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨⟨H0, H1, Hv⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [H0]; · iexact H0
    isplitl [H1] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What the exit keeps of a device for the final memory to be read by. -/
def kept₁ (c : Dev nD) : sProp 𝕄 :=
  iprop(unscopedSems0 c
      ∗ (((c : Thread nD τ).loc main_arg0) ↦{fullShare} m ((c : Thread nD τ).loc main_arg0)) ∗ (((c : Thread nD τ).loc main_arg1) ↦{fullShare} m ((c : Thread nD τ).loc main_arg1))
      ∗ (((c : Thread nD τ).loc main_v1) ↦{fullShare} outV m c))
theorem phi1_exit (c : Dev nD) :
    (dats m ρ 0 c).Φ (Fin.last cfg0.N) ⊢ iprop(kept₁ m c ∗ Pipeline.ownSems0 osem c ∗ Pipeline.scopedRest cfg0.spec c) := by
  rw [show (dats m ρ 0 c).Φ (Fin.last cfg0.N) = ends m c from rfl, scopedRest0_eq]
  unfold ends scratch kept₁
  iintro H
  iexact H

theorem stage_none (w : Fin cfg0.W) (s) : recvIx (.dma ((cfg0.win w).sem s)) = none := by
  revert w s; decide
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_none w s) _ (by
      rcases t with ⟨_ | _, ht⟩
      · exact Or.inl rfl
      · exact Or.inr rfl)

/-- What a final memory holds on device `c`. -/
def QD (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outV m c

theorem read_end (c : Dev nD) (s' : Phys nD τ sig (Elt F)) :
    iprop(kept₁ m c ∗ emp ∗ SI s') ⊢ (|={Set.univ}=> iprop(⌜(∀ sm : SemLoc sig, sm.isScoped .tc = false → s'.mem.sem ((c : Thread nD τ), sm) = 0) ∧ QD m c s'.mem⌝ ∗ SI s') : sProp 𝕄) := by
  unfold kept₁
  iintro ⟨⟨Hu, H0, H1, Hv⟩, -, HSI⟩
  icombine HSI H0 gives %h0
  icombine HSI H1 gives %h1
  icombine HSI Hv gives %hv
  imod (Pipeline.unscopedSems0_read (X := unscopedSems0 c) (c := c) fupd_intro s') $$ [Hu HSI] with ⟨%hz, HSI⟩
  · isplitl [Hu] <;> iassumption
  imodintro
  isplitr; · ipureintro; exact ⟨hz, Buf.eq_of_forall_mem_univ h0, Buf.eq_of_forall_mem_univ h1, Buf.eq_of_forall_mem_univ hv⟩
  iexact HSI

/-! ## The run -/

/-- The four arguments unchanged and the result in its array, on every device. -/
def QC (r : PUnit × MemSt nD τ sig (Elt F)) : Prop :=
  ∀ c : Dev nD, r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_v1) = outV m c

/-- For any float values, from any memory with zero counters: every weakly fair execution of the eight devices' programs
    terminates, and every final state has every argument as it was, the result at the computed contents, and every
    semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := kept₁ m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ QD m c s)
    (hY := fun c s' => read_end m c s')
    (hQ := fun _ h hs => ⟨fun c => ⟨(h c).2.2.2.1, (h c).2.2.2.2.1,
        ((h c).1 (0 : Fin 2)).trans ((dats (F := F) m ρ 0 c).arrAt_in (0 : Fin 2) rfl _),
        ((h c).1 (1 : Fin 2)).trans ((dats (F := F) m ρ 0 c).arrAt_in (1 : Fin 2) rfl _), (h c).2.2.2.2.2⟩,
      sem_eq_zero hs fun c => (h c).2.2.1⟩)

end Cert.KernelIdeal.Proto

end
-- ==== Proof.Same.lean ====
/-
# 01_k — `Same`: the printed kernel and its idealization are one text

No rule rewrote an operation, so the two programs are the same definitions under two names. What is proved of one is a
fact of the other.
-/
module

public import proofs.«01_k».proof.Proof.Gen.Kernel
public import proofs.«01_k».proof.Proof.Gen.KernelIdeal
public import Idealize.ShloMosaic.Adequacy

@[expose] public section

set_option maxRecDepth 16384

namespace Cert.Same

open Idealize.ShloMosaic Idealize.SL.Sem
open Cert.Kernel.Gen Cert.KernelIdeal.Gen

variable {F : FTy → Type} [FloatOps F]

theorem sig_eq : Cert.Kernel.sig = Cert.KernelIdeal.sig := rfl
theorem body_eq : @Cert.Kernel.cc0_body F _ _ = @Cert.KernelIdeal.cc0_body F _ _ := rfl
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (_, _) => rfl
theorem defs_eq : Cert.Kernel.defs (F := F) = Cert.KernelIdeal.defs (F := F) := congrArg (Pipeline.defs Cert.KernelIdeal.pcfgs) defs₀_eq
theorem main_eq : Cert.Kernel.main (F := F) = Cert.KernelIdeal.main (F := F) := rfl

/-- A run of one program is a run of any program equal to it. -/
theorem run_of {nD : Nat} {τ : Topo} {sig : RefSig} {Λ : Labels} {D D' : Defs nD τ sig (Elt F) Λ} (hD : D = D')
    {p p' : Dev nD → Prog (TpuEff nD τ sig (Elt F) Λ .tc) PUnit} (hp : p = p') {s : MemSt nD τ sig (Elt F)} {Q : _ → Prop}
    (h : (θ_run D' (onTc (τ := τ) p') s) Q) : (θ_run D (onTc (τ := τ) p) s) Q := by
  subst hD hp
  exact h

end Cert.Same

end
-- ==== Proof.Value.lean ====
/-
# 01_k — `Value`: the result over the extended reals

Over the extended reals the narrow format changes nothing, so each of the eight products is a sum over one block of 512
columns of `x` and rows of `w`. Added in whatever order the device takes them, the eight are the one sum over all 4096.
-/
module

public import proofs.«01_k».proof.Proof.Out
public import proofs.«01_k».proof.Proof.Gen.ReferenceIdeal.Run
public import Idealize.ShloMosaic.PureOps.Ideal
public import Idealize.ShloMosaic.Lib.IdealHost
public import Idealize.ShloMosaic.Lib.Layout
public import Idealize.ShloMosaic.Lib.Pointwise

@[expose] public section

set_option maxRecDepth 16384

noncomputable section

namespace Cert.KernelIdeal.Proto

open Cert.KernelIdeal Cert.KernelIdeal.Gen
open Idealize.ShloMosaic
open Idealize.ShloMosaic.TcCoe

/-! ## Silu -/

theorem one_add_exp_ne_zero (y : EReal) : 1 + Ideal.exp y ≠ 0 := by
  have h : (0 : EReal) ≤ Ideal.exp y := by
    induction y with
    | bot => simp
    | top => simp
    | coe r => rw [Ideal.exp_coe]; exact_mod_cast (Real.exp_pos r).le
  have h1 : (1 : EReal) ≤ 1 + Ideal.exp y := le_add_of_nonneg_right h
  intro h0
  rw [h0] at h1
  exact absurd h1 (by norm_num)
/-- `y` times its logistic is `y` over one plus the exponential of `-y`, at the infinities too. -/
theorem silu_eq (y : EReal) : y * Ideal.logistic y = Ideal.div y (1 + Ideal.exp (-y)) :=
  Ideal.mul_one_div (one_add_exp_ne_zero (-y))

/-! ## One block's product, and the eight -/

/-- Row `r` of block `a` times column `l` of block `b`. -/
def dotB (a : Vec Ideal S1x512x512 .fp8e4m3) (b : Vec Ideal S1x512x2048 .f32) (r : Fin 512) (l : Fin 2048) : EReal :=
  ∑ k : Fin 512, (a (ix3 (0 : Fin 1) r k) : EReal) * (b (ix3 (0 : Fin 1) k l) : EReal)

theorem pay12_at (a : Vec Ideal S1x512x512 .fp8e4m3) (b : Vec Ideal S1x512x2048 .f32) (r : Fin 512) (l : Fin 2048) :
    k0_pay12 (F := Ideal) a b (ix2 r l) = dotB a b r l := by
  unfold k0_pay12 dotB
  pointwise
theorem pay13_at (acc : FVec Ideal S512x2048 .f32) (a : Vec Ideal S1x512x512 .fp8e4m3) (b : Vec Ideal S1x512x2048 .f32) (r : Fin 512) (l : Fin 2048) :
    k0_pay13 (F := Ideal) acc a b (ix2 r l) = (acc (ix2 r l) + dotB a b r l : EReal) := by
  unfold k0_pay13 dotB
  pointwise
/-- The other steps of the accumulator are the same. -/
theorem pay14_eq : k0_pay14 (F := Ideal) = k0_pay13 (F := Ideal) := rfl
theorem pay15_eq : k0_pay15 (F := Ideal) = k0_pay13 (F := Ideal) := rfl
theorem pay16_eq (acc : FVec Ideal S512x2048 .f32) (a : Vec Ideal S1x512x512 .fp8e4m3) (b : Vec Ideal S1x512x2048 .f32) (a' : Vec Ideal S1x512x512 .fp8e4m3) (b' : Vec Ideal S1x512x2048 .f32) :
    k0_pay16 (F := Ideal) acc a b a' b' = k0_pay13 (F := Ideal) (k0_pay13 (F := Ideal) acc a b) a' b' := rfl
theorem pay17_eq : k0_pay17 (F := Ideal) = k0_pay13 (F := Ideal) := rfl

theorem pay18_at (a : Vec Ideal S1x512x512 .fp8e4m3) (r k : Fin 512) :
    k0_pay18 (F := Ideal) a (ix2 r k) = a (ix3 (0 : Fin 1) r k) := by
  unfold k0_pay18
  pointwise

/-- What the last step makes of a sum and the scale. -/
def act (y s : EReal) : EReal := Ideal.div (y * s) (1 + Ideal.exp (-(y * s)))

theorem pay19_at (s : Ideal .f32) (acc : FVec Ideal S512x2048 .f32) (a : Vec Ideal S1x512x512 .fp8e4m3) (b : Vec Ideal S1x512x2048 .f32) (r : Fin 512) (l : Fin 1024) (l' : Fin 2048)
    (hl : l'.val = l.val) : k0_pay19 (F := Ideal) s acc a b (ix3 (0 : Fin 1) r l) = act (acc (ix2 r l') + dotB a b r l') s := by
  obtain ⟨l', h'⟩ := l'
  subst hl
  unfold act dotB
  rw [← silu_eq]
  unfold k0_pay19
  pointwise
  simp only [pay18_at]
theorem pay20_at (s : Ideal .f32) (acc : FVec Ideal S512x2048 .f32) (a : Vec Ideal S1x512x512 .fp8e4m3) (b : Vec Ideal S1x512x2048 .f32) (r : Fin 512) (l : Fin 1024) (l' : Fin 2048)
    (hl : l'.val = 1024 + l.val) : k0_pay21 (k0_pay20 (F := Ideal) s acc a b) (ix3 (0 : Fin 1) r l) = act (acc (ix2 r l') + dotB a b r l') s := by
  obtain ⟨l', h'⟩ := l'
  subst hl
  unfold act dotB
  rw [← silu_eq]
  unfold k0_pay21 k0_pay20
  pointwise
  simp only [pay18_at]

variable (m : (ℓ : Loc nD τ sig) → Buf (Elt Ideal) ℓ)

theorem XT_at (c s : Dev nD) (r k : Fin 512) : XT m c s (ix3 (0 : Fin 1) r k) = xblk m c s (ix3 (0 : Fin 1) r k) := by
  unfold XT k0_pay2 k0_pay1
  pointwise

/-- Device `s`'s part of the sum that device `c` makes at row `r` of its rows and column `l`. -/
def part (c s : Dev nD) (r : Fin 512) (l : Fin 2048) : EReal := dotB (XT m s c) (wblk m c s) r l

theorem accV_at (c : Dev nD) (r : Fin 512) (l : Fin 2048) :
    accV m c (ix2 r l) = (part m c c r l + part m c (pr c 6) r l + part m c (pr c 5) r l + part m c (pr c 4) r l + part m c (pr c 3) r l + part m c (pr c 2) r l + part m c (pr c 1) r l : EReal) := by
  unfold accV part
  rw [pay17_eq, pay16_eq, pay15_eq, pay14_eq, pay13_at, pay13_at, pay13_at, pay13_at, pay13_at, pay13_at, pay12_at]

/-- The eight devices, from any one on, are all the devices. -/
theorem sum_around (c : Dev nD) (f : Dev nD → EReal) :
    f c + f (pr c 6) + f (pr c 5) + f (pr c 4) + f (pr c 3) + f (pr c 2) + f (pr c 1) + f (pr c 0) = ∑ s : Fin 8, f s := by
  rw [← Equiv.sum_comp (Equiv.addLeft (show Fin 8 from c)) f, Fin.sum_univ_eight]
  have h : ∀ k : ℕ, (hk : k + 1 < 8) → f (pr c k) = f (Equiv.addLeft (show Fin 8 from c) ⟨k + 1, hk⟩) := fun k hk =>
    congrArg f (Fin.ext (by
      rw [pr_val]
      show _ = (c.val + (k + 1)) % 8
      rw [Nat.add_assoc]))
  have h0 : f c = f (Equiv.addLeft (show Fin 8 from c) 0) := congrArg f (Fin.ext (by
    have hc : c.val < 8 := c.isLt
    show c.val = (c.val + 0) % 8
    omega))
  rw [h0, h 0 (by decide), h 1 (by decide), h 2 (by decide), h 3 (by decide), h 4 (by decide), h 5 (by decide), h 6 (by decide)]
  have hg : ∀ g : Fin 8 → EReal, g 0 + g 7 + g 6 + g 5 + g 4 + g 3 + g 2 + g 1 = g 0 + g 1 + g 2 + g 3 + g 4 + g 5 + g 6 + g 7 := fun g => by abel
  exact hg fun k => f (Equiv.addLeft (show Fin 8 from c) k)

/-- The result at row `r` and column `l`: silu of the scaled sum of the eight parts. -/
theorem outV_at (c : Dev nD) (r : Fin 512) (l : Fin 2048) :
    outV m c (ix2 r l) = act (∑ s : Fin 8, part m c s r l) (sc m c) := by
  rw [← sum_around c fun s => part m c s r l]
  by_cases h : l.val < 1024
  · refine (dif_pos (show ((ix2 r l : S512x2048.Idx) 1).val < 1024 from h)).trans ?_
    refine (pay19_at (sc m c) (accV m c) (XT m (pr c 0) c) (wblk m c (pr c 0)) r (⟨l.val, h⟩ : Fin 1024) l rfl).trans ?_
    rw [accV_at]
    rfl
  · refine (dif_neg (show ¬ ((ix2 r l : S512x2048.Idx) 1).val < 1024 from h)).trans ?_
    refine (pay20_at (sc m c) (accV m c) (XT m (pr c 0) c) (wblk m c (pr c 0)) r (⟨l.val - 1024, by have := l.isLt; omega⟩ : Fin 1024) l (by show l.val = 1024 + (l.val - 1024); omega)).trans ?_
    rw [accV_at]
    rfl

/-! ## The reference -/

section Ref
open Cert.ReferenceIdeal.Gen Cert.ReferenceIdeal

/-- The reference's result, of its four arguments. -/
def refV (X : FVec Ideal Cert.ReferenceIdeal.S4096x4096 .f32) (W : FVec Ideal Cert.ReferenceIdeal.S4096x2048 .f32) (a b : FVec Ideal Cert.ReferenceIdeal.S1 .f32) : FVec Ideal Cert.ReferenceIdeal.S4096x2048 .f32 :=
  Host.divf (mulf (Host.dotGeneral dot_S4096x4096_S4096x2048_S4096x2048_1_0_0_1_n_n none X W) (broadcastInDim Cert.ReferenceIdeal.S4096x2048 ![0, 1] bcast_S1x1_S4096x2048_0_1 (broadcastInDim Cert.ReferenceIdeal.S1x1 ![1] bcast_S1_S1x1_1 (mulf a b)))) (addf (broadcastInDim Cert.ReferenceIdeal.S4096x2048 ![] bcast_S_S4096x2048 (constant Cert.ReferenceIdeal.S_ .f32 0x3F800000#32)) (Host.exp (Host.negf (mulf (Host.dotGeneral dot_S4096x4096_S4096x2048_S4096x2048_1_0_0_1_n_n none X W) (broadcastInDim Cert.ReferenceIdeal.S4096x2048 ![0, 1] bcast_S1x1_S4096x2048_0_1 (broadcastInDim Cert.ReferenceIdeal.S1x1 ![1] bcast_S1_S1x1_1 (mulf a b)))))))

theorem refV_at (X : FVec Ideal Cert.ReferenceIdeal.S4096x4096 .f32) (W : FVec Ideal Cert.ReferenceIdeal.S4096x2048 .f32) (a b : FVec Ideal Cert.ReferenceIdeal.S1 .f32) (r : Fin 4096) (l : Fin 2048) :
    refV X W a b (ix2 r l) = act (∑ k : Fin 4096, (X (ix2 r k) : EReal) * (W (ix2 k l) : EReal)) (Scalar.mulf (a (ix1 (0 : Fin 1))) (b (ix1 (0 : Fin 1)))) := by
  unfold refV act
  pointwise

end Ref

/-! ## The kernel's rows are the reference's -/

/-- A device's part of the sum, in the whole arrays. -/
theorem part_at (X : FVec Ideal Cert.ReferenceIdeal.S4096x4096 .f32) (W : FVec Ideal Cert.ReferenceIdeal.S4096x2048 .f32)
    (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = W)
    (c s : Dev nD) (r : Fin 512) (l : Fin 2048) (R : Fin 4096) (hR : R.val = c.val * 512 + r.val) :
    part m c s r l = ∑ k : Fin 512, (X (ix2 R (⟨s.val * 512 + k.val, by have h1 := k.isLt; have h2 : s.val < 8 := s.isLt; omega⟩ : Fin 4096)) : EReal)
      * (W (ix2 (⟨s.val * 512 + k.val, by have h1 := k.isLt; have h2 : s.val < 8 := s.isLt; omega⟩ : Fin 4096) l) : EReal) := by
  unfold part dotB
  refine Finset.sum_congr rfl fun k _ => congrArg₂ _ ?_ ?_
  · refine (XT_at m s c r k).trans ((congrFun (hX s) _).trans (congrArg X ?_))
    funext i
    apply Fin.ext
    match i with
    | ⟨0, _⟩ => show 512 * c.val + r.val = R.val; omega
    | ⟨1, _⟩ => rfl
  · refine (congrFun (hW c) _).trans (congrArg W ?_)
    funext i
    apply Fin.ext
    match i with
    | ⟨0, _⟩ => show 512 * s.val + k.val = s.val * 512 + k.val; omega
    | ⟨1, _⟩ => rfl

/-- Each device's result is its block of rows of the reference's. -/
theorem outV_eq (X : FVec Ideal Cert.ReferenceIdeal.S4096x4096 .f32) (W : FVec Ideal Cert.ReferenceIdeal.S4096x2048 .f32) (a b : FVec Ideal Cert.ReferenceIdeal.S1 .f32)
    (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = W) (ha : ∀ c : Dev nD, m ((c : Thread nD τ).loc main_arg2) = a)
    (hb : ∀ c : Dev nD, m ((c : Thread nD τ).loc main_arg3) = b) (c : Dev nD) :
    outV m c = Layout.block ⟨2, ![512, 2048]⟩ ⟨2, ![4096, 2048]⟩ 0 8 c (refV X W a b) := by
  funext i
  have hc : c.val < 8 := c.isLt
  have h0 : (i 0).val < 512 := (i 0).isLt
  have hi : i = ix2 (i 0 : Fin 512) (i 1 : Fin 2048) := by
    funext t
    match t with
    | ⟨0, _⟩ => rfl
    | ⟨1, _⟩ => rfl
  have hl : (Layout.block ⟨2, ![512, 2048]⟩ ⟨2, ![4096, 2048]⟩ 0 8 c (refV X W a b)) i = refV X W a b (ix2 (⟨c.val * 512 + (i 0).val, by omega⟩ : Fin 4096) (i 1 : Fin 2048)) := by
    refine congrArg (refV X W a b) ?_
    funext t
    apply Fin.ext
    match t with
    | ⟨0, _⟩ => rfl
    | ⟨1, _⟩ => rfl
  refine (congrArg (outV m c) hi).trans ((outV_at m c (i 0) (i 1)).trans (Eq.trans (congrArg₂ act ?_ ?_) ((refV_at X W a b _ _).symm.trans hl.symm)))
  · exact (Finset.sum_congr rfl fun s _ => part_at m X W hX hW c s (i 0) (i 1) (⟨c.val * 512 + (i 0).val, by omega⟩ : Fin 4096) rfl).trans
      (Fin.sum_univ_tiles 8 512 (by decide) _).symm
  · unfold sc k0_pay11
    rw [ha, hb]

end Cert.KernelIdeal.Proto

end
-- ==== Proof.lean ====
/-
# 01_k — the claims

The two kernel frames are one run read at two float instances; the reference's frame is its generated run. The value claim
joins the kernel's run at the extended reals to the reference's (`Value`).
-/
module

public import proofs.«01_k».proof.Defs
public import proofs.«01_k».proof.Proof.Launch
public import proofs.«01_k».proof.Proof.Same
public import proofs.«01_k».proof.Proof.Value
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

/-- The kernel's frame: its idealization's run at the bit-exact floats (the two texts are the same). -/
theorem frame_kernel : Cert.quiescent_Kernel := fun m ρ _ =>
  Cert.Same.run_of Cert.Same.defs_eq Cert.Same.main_eq
    ((θ_run Cert.KernelIdeal.defs _ _).mono
      (fun _ h => ⟨fun c => ⟨(h.1 c).1, (h.1 c).2.1, (h.1 c).2.2.1, (h.1 c).2.2.2.1⟩, h.2⟩)
      (Cert.KernelIdeal.Proto.run_main (F := Bits) m ρ))

/-- The idealized kernel's frame. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KernelIdeal.Proto.run_main (F := Ideal) m ρ)

/-- The reference's frame: its run's post at the arguments; it has no semaphore. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every run of the idealized kernel leaves on each device its block of rows of what every run of the reference leaves. -/
theorem algebraic : Cert.algebraic_KernelIdeal_ReferenceIdeal := fun m g m' g' _ hm =>
  ⟨_,
    (θ_run Cert.KernelIdeal.defs _ _).mono
      (fun _ h c => ⟨(h.1 c).2.2.2.2.trans (Cert.KernelIdeal.Proto.outV_eq m _ _ _ _
          (fun c => (hm c).1) (fun c => (hm c).2.1) (fun c => (hm c).2.2.1) (fun c => (hm c).2.2.2) c),
        (h.1 c).1, (h.1 c).2.1, (h.1 c).2.2.1, (h.1 c).2.2.2.1⟩)
      (Cert.KernelIdeal.Proto.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts, frame_kernel, frame_ideal, frame_ref, trivial, algebraic⟩

end Cert.Proof

end
